-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_top [hPre_one_top : Cert.Pre_one_top.Facts] (m : (ℓ : Loc Cert.KernelIdeal.nD Cert.KernelIdeal.τ Cert.KernelIdeal.sig) → Buf (Elt Ideal) ℓ) : Prop :=
  ∀ c : Dev Cert.KernelIdeal.nD,
    (Cert.Pre_one_top.fn (F := Ideal) (m ((c.tc : Thread Cert.KernelIdeal.nD Cert.KernelIdeal.τ).loc Cert.KernelIdeal.main_arg0))).1 = (fun _ => 1#1)
    ∧ (Cert.Pre_one_top.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_top [hPre_one_top : Cert.Pre_one_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_top.fn (F := Ideal) (m ((c.tc : Thread Cert.ReferenceIdeal.nD Cert.ReferenceIdeal.τ).loc Cert.ReferenceIdeal.main_arg0))).1 = (fun _ => 1#1)
    ∧ (Cert.Pre_one_top.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_one_top [hKernelIdeal : Cert.KernelIdeal.Facts] [hPre_one_top : Cert.Pre_one_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_one_top [hReferenceIdeal : Cert.ReferenceIdeal.Facts] [hPre_one_top : Cert.Pre_one_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_one_top [hKernelIdeal : Cert.KernelIdeal.Facts] [hReferenceIdeal : Cert.ReferenceIdeal.Facts] [hPre_one_top : Cert.Pre_one_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_one_top : Cert.Pre_one_top.Facts),
    quiescent_Kernel (hKernel := hKernel)
    ∧ quiescent_KernelIdeal (hKernelIdeal := hKernelIdeal)
    ∧ quiescent_KernelIdeal_pre_one_top (hKernelIdeal := hKernelIdeal) (hPre_one_top := hPre_one_top)
    ∧ quiescent_ReferenceIdeal (hReferenceIdeal := hReferenceIdeal)
    ∧ quiescent_ReferenceIdeal_pre_one_top (hReferenceIdeal := hReferenceIdeal) (hPre_one_top := hPre_one_top)
    ∧ preserves_Kernel_KernelIdeal
    ∧ algebraic_KernelIdeal_ReferenceIdeal_pre_one_top (hKernelIdeal := hKernelIdeal) (hReferenceIdeal := hReferenceIdeal) (hPre_one_top := hPre_one_top)
-- ==== Pre_one_top.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

class Facts : Prop where
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S128x100000 : S_.BroadcastsInDim S128x100000 (![] : Fin 0 → Fin S128x100000.rank)
  natLt_32_64 : 32 < 64
  bcast_S1x1_S128x100000_0_1 : S1x1.BroadcastsInDim S128x100000 (![0, 1] : Fin 2 → Fin S128x100000.rank)
  reducesTo_S128x100000_S128_d1 : S128x100000.ReducesTo [1] S128
  h_S_ : 0 < S_.numel
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_threefry2x32_part9 {F : FTy → Type} [FloatOps F] (arg0 : IVec S_ 32) (v163 : IVec S128x100000 32) (v169 : IVec S128x100000 32) (v170 : IVec S128x100000 32) : IVec S128x100000 32 × IVec S128x100000 32 :=
  let v171 : IVec S128x100000 32 := addi v163 v170
  let v172 : IVec S128x100000 32 := broadcastInDim S128x100000 ![] bcast_S_S128x100000 arg0
  let v173 : IVec S128x100000 32 := addi v169 v172
  let c_44 : IVec S_ 32 := constantI S_ 32 5#32
  let v174 : IVec S128x100000 32 := broadcastInDim S128x100000 ![] bcast_S_S128x100000 c_44
  let v175 : IVec S128x100000 32 := addi v173 v174
  (v171, v175)

def fn_threefry2x32_part8 {F : FTy → Type} [FloatOps F] (arg0 : IVec S_ 32) (v1 : IVec S_ 32) (v148 : IVec S128x100000 32) (v149 : IVec S128x100000 32) (v151 : IVec S128x100000 32) : IVec S128x100000 32 × IVec S128x100000 32 :=
  let c_39 : IVec S_ 32 := constantI S_ 32 17#32
  let v152 : IVec S128x100000 32 := broadcastInDim S128x100000 ![] bcast_S_S128x100000 c_39
  let v153 : IVec S128x100000 32 := Host.shrui v148 v152
  let v154 : IVec S128x100000 32 := ori v151 v153
  let v155 : IVec S128x100000 32 := xori v149 v154
  let v156 : IVec S128x100000 32 := addi v149 v155
  let c_40 : IVec S_ 32 := constantI S_ 32 26#32
  let v157 : IVec S128x100000 32 := broadcastInDim S128x100000 ![] bcast_S_S128x100000 c_40
  let v158 : IVec S128x100000 32 := Host.shli v155 v157
  let c_41 : IVec S_ 32 := constantI S_ 32 6#32
  let v159 : IVec S128x100000 32 := broadcastInDim S128x100000 ![] bcast_S_S128x100000 c_41
  let v160 : IVec S128x100000 32 := Host.shrui v155 v159
  let v161 : IVec S128x100000 32 := ori v158 v160
  let v162 : IVec S128x100000 32 := xori v156 v161
  let v163 : IVec S128x100000 32 := addi v156 v162
  let c_42 : IVec S_ 32 := constantI S_ 32 6#32
  let v164 : IVec S128x100000 32 := broadcastInDim S128x100000 ![] bcast_S_S128x100000 c_42
  let v165 : IVec S128x100000 32 := Host.shli v162 v164
  let c_43 : IVec S_ 32 := constantI S_ 32 26#32
  let v166 : IVec S128x100000 32 := broadcastInDim S128x100000 ![] bcast_S_S128x100000 c_43
  let v167 : IVec S128x100000 32 := Host.shrui v162 v166
  let v168 : IVec S128x100000 32 := ori v165 v167
  let v169 : IVec S128x100000 32 := xori v163 v168
  let v170 : IVec S128x100000 32 := broadcastInDim S128x100000 ![] bcast_S_S128x100000 v1
  fn_threefry2x32_part9 (F := F) arg0 v163 v169 v170

def fn_threefry2x32_part7 {F : FTy → Type} [FloatOps F] (arg0 : IVec S_ 32) (arg1 : IVec S_ 32) (v1 : IVec S_ 32) (v128 : IVec S128x100000 32) (v129 : IVec S128x100000 32) (v131 : IVec S128x100000 32) (c_34 : IVec S_ 32) : IVec S128x100000 32 × IVec S128x100000 32 :=
  let v132 : IVec S128x100000 32 := broadcastInDim S128x100000 ![] bcast_S_S128x100000 c_34
  let v133 : IVec S128x100000 32 := Host.shrui v128 v132
  let v134 : IVec S128x100000 32 := ori v131 v133
  let v135 : IVec S128x100000 32 := xori v129 v134
  let v136 : IVec S128x100000 32 := broadcastInDim S128x100000 ![] bcast_S_S128x100000 arg1
  let v137 : IVec S128x100000 32 := addi v129 v136
  let v138 : IVec S128x100000 32 := broadcastInDim S128x100000 ![] bcast_S_S128x100000 v1
  let v139 : IVec S128x100000 32 := addi v135 v138
  let c_35 : IVec S_ 32 := constantI S_ 32 4#32
  let v140 : IVec S128x100000 32 := broadcastInDim S128x100000 ![] bcast_S_S128x100000 c_35
  let v141 : IVec S128x100000 32 := addi v139 v140
  let v142 : IVec S128x100000 32 := addi v137 v141
  let c_36 : IVec S_ 32 := constantI S_ 32 13#32
  let v143 : IVec S128x100000 32 := broadcastInDim S128x100000 ![] bcast_S_S128x100000 c_36
  let v144 : IVec S128x100000 32 := Host.shli v141 v143
  let c_37 : IVec S_ 32 := constantI S_ 32 19#32
  let v145 : IVec S128x100000 32 := broadcastInDim S128x100000 ![] bcast_S_S128x100000 c_37
  let v146 : IVec S128x100000 32 := Host.shrui v141 v145
  let v147 : IVec S128x100000 32 := ori v144 v146
  let v148 : IVec S128x100000 32 := xori v142 v147
  let v149 : IVec S128x100000 32 := addi v142 v148
  let c_38 : IVec S_ 32 := constantI S_ 32 15#32
  let v150 : IVec S128x100000 32 := broadcastInDim S128x100000 ![] bcast_S_S128x100000 c_38
  let v151 : IVec S128x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S128x100000 32) (v113 : IVec S128x100000 32) : IVec S128x100000 32 × IVec S128x100000 32 :=
  let v114 : IVec S128x100000 32 := xori v108 v113
  let v115 : IVec S128x100000 32 := addi v108 v114
  let c_29 : IVec S_ 32 := constantI S_ 32 29#32
  let v116 : IVec S128x100000 32 := broadcastInDim S128x100000 ![] bcast_S_S128x100000 c_29
  let v117 : IVec S128x100000 32 := Host.shli v114 v116
  let c_30 : IVec S_ 32 := constantI S_ 32 3#32
  let v118 : IVec S128x100000 32 := broadcastInDim S128x100000 ![] bcast_S_S128x100000 c_30
  let v119 : IVec S128x100000 32 := Host.shrui v114 v118
  let v120 : IVec S128x100000 32 := ori v117 v119
  let v121 : IVec S128x100000 32 := xori v115 v120
  let v122 : IVec S128x100000 32 := addi v115 v121
  let c_31 : IVec S_ 32 := constantI S_ 32 16#32
  let v123 : IVec S128x100000 32 := broadcastInDim S128x100000 ![] bcast_S_S128x100000 c_31
  let v124 : IVec S128x100000 32 := Host.shli v121 v123
  let c_32 : IVec S_ 32 := constantI S_ 32 16#32
  let v125 : IVec S128x100000 32 := broadcastInDim S128x100000 ![] bcast_S_S128x100000 c_32
  let v126 : IVec S128x100000 32 := Host.shrui v121 v125
  let v127 : IVec S128x100000 32 := ori v124 v126
  let v128 : IVec S128x100000 32 := xori v122 v127
  let v129 : IVec S128x100000 32 := addi v122 v128
  let c_33 : IVec S_ 32 := constantI S_ 32 24#32
  let v130 : IVec S128x100000 32 := broadcastInDim S128x100000 ![] bcast_S_S128x100000 c_33
  let v131 : IVec S128x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S128x100000 32) (v94 : IVec S128x100000 32) : IVec S128x100000 32 × IVec S128x100000 32 :=
  let v95 : IVec S128x100000 32 := addi v88 v94
  let c_24 : IVec S_ 32 := constantI S_ 32 6#32
  let v96 : IVec S128x100000 32 := broadcastInDim S128x100000 ![] bcast_S_S128x100000 c_24
  let v97 : IVec S128x100000 32 := Host.shli v94 v96
  let c_25 : IVec S_ 32 := constantI S_ 32 26#32
  let v98 : IVec S128x100000 32 := broadcastInDim S128x100000 ![] bcast_S_S128x100000 c_25
  let v99 : IVec S128x100000 32 := Host.shrui v94 v98
  let v100 : IVec S128x100000 32 := ori v97 v99
  let v101 : IVec S128x100000 32 := xori v95 v100
  let v102 : IVec S128x100000 32 := broadcastInDim S128x100000 ![] bcast_S_S128x100000 arg0
  let v103 : IVec S128x100000 32 := addi v95 v102
  let v104 : IVec S128x100000 32 := broadcastInDim S128x100000 ![] bcast_S_S128x100000 arg1
  let v105 : IVec S128x100000 32 := addi v101 v104
  let c_26 : IVec S_ 32 := constantI S_ 32 3#32
  let v106 : IVec S128x100000 32 := broadcastInDim S128x100000 ![] bcast_S_S128x100000 c_26
  let v107 : IVec S128x100000 32 := addi v105 v106
  let v108 : IVec S128x100000 32 := addi v103 v107
  let c_27 : IVec S_ 32 := constantI S_ 32 17#32
  let v109 : IVec S128x100000 32 := broadcastInDim S128x100000 ![] bcast_S_S128x100000 c_27
  let v110 : IVec S128x100000 32 := Host.shli v107 v109
  let c_28 : IVec S_ 32 := constantI S_ 32 15#32
  let v111 : IVec S128x100000 32 := broadcastInDim S128x100000 ![] bcast_S_S128x100000 c_28
  let v112 : IVec S128x100000 32 := Host.shrui v107 v111
  let v113 : IVec S128x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S128x100000 32) (v74 : IVec S128x100000 32) (v75 : IVec S128x100000 32) : IVec S128x100000 32 × IVec S128x100000 32 :=
  let v76 : IVec S128x100000 32 := Host.shli v73 v75
  let c_19 : IVec S_ 32 := constantI S_ 32 19#32
  let v77 : IVec S128x100000 32 := broadcastInDim S128x100000 ![] bcast_S_S128x100000 c_19
  let v78 : IVec S128x100000 32 := Host.shrui v73 v77
  let v79 : IVec S128x100000 32 := ori v76 v78
  let v80 : IVec S128x100000 32 := xori v74 v79
  let v81 : IVec S128x100000 32 := addi v74 v80
  let c_20 : IVec S_ 32 := constantI S_ 32 15#32
  let v82 : IVec S128x100000 32 := broadcastInDim S128x100000 ![] bcast_S_S128x100000 c_20
  let v83 : IVec S128x100000 32 := Host.shli v80 v82
  let c_21 : IVec S_ 32 := constantI S_ 32 17#32
  let v84 : IVec S128x100000 32 := broadcastInDim S128x100000 ![] bcast_S_S128x100000 c_21
  let v85 : IVec S128x100000 32 := Host.shrui v80 v84
  let v86 : IVec S128x100000 32 := ori v83 v85
  let v87 : IVec S128x100000 32 := xori v81 v86
  let v88 : IVec S128x100000 32 := addi v81 v87
  let c_22 : IVec S_ 32 := constantI S_ 32 26#32
  let v89 : IVec S128x100000 32 := broadcastInDim S128x100000 ![] bcast_S_S128x100000 c_22
  let v90 : IVec S128x100000 32 := Host.shli v87 v89
  let c_23 : IVec S_ 32 := constantI S_ 32 6#32
  let v91 : IVec S128x100000 32 := broadcastInDim S128x100000 ![] bcast_S_S128x100000 c_23
  let v92 : IVec S128x100000 32 := Host.shrui v87 v91
  let v93 : IVec S128x100000 32 := ori v90 v92
  let v94 : IVec S128x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S128x100000 32) (v54 : IVec S128x100000 32) (v56 : IVec S128x100000 32) : IVec S128x100000 32 × IVec S128x100000 32 :=
  let c_14 : IVec S_ 32 := constantI S_ 32 16#32
  let v57 : IVec S128x100000 32 := broadcastInDim S128x100000 ![] bcast_S_S128x100000 c_14
  let v58 : IVec S128x100000 32 := Host.shrui v53 v57
  let v59 : IVec S128x100000 32 := ori v56 v58
  let v60 : IVec S128x100000 32 := xori v54 v59
  let v61 : IVec S128x100000 32 := addi v54 v60
  let c_15 : IVec S_ 32 := constantI S_ 32 24#32
  let v62 : IVec S128x100000 32 := broadcastInDim S128x100000 ![] bcast_S_S128x100000 c_15
  let v63 : IVec S128x100000 32 := Host.shli v60 v62
  let c_16 : IVec S_ 32 := constantI S_ 32 8#32
  let v64 : IVec S128x100000 32 := broadcastInDim S128x100000 ![] bcast_S_S128x100000 c_16
  let v65 : IVec S128x100000 32 := Host.shrui v60 v64
  let v66 : IVec S128x100000 32 := ori v63 v65
  let v67 : IVec S128x100000 32 := xori v61 v66
  let v68 : IVec S128x100000 32 := broadcastInDim S128x100000 ![] bcast_S_S128x100000 v1
  let v69 : IVec S128x100000 32 := addi v61 v68
  let v70 : IVec S128x100000 32 := broadcastInDim S128x100000 ![] bcast_S_S128x100000 arg0
  let v71 : IVec S128x100000 32 := addi v67 v70
  let c_17 : IVec S_ 32 := constantI S_ 32 2#32
  let v72 : IVec S128x100000 32 := broadcastInDim S128x100000 ![] bcast_S_S128x100000 c_17
  let v73 : IVec S128x100000 32 := addi v71 v72
  let v74 : IVec S128x100000 32 := addi v69 v73
  let c_18 : IVec S_ 32 := constantI S_ 32 13#32
  let v75 : IVec S128x100000 32 := broadcastInDim S128x100000 ![] bcast_S_S128x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S128x100000 32) (v37 : IVec S128x100000 32) (c_8 : IVec S_ 32) : IVec S128x100000 32 × IVec S128x100000 32 :=
  let v38 : IVec S128x100000 32 := broadcastInDim S128x100000 ![] bcast_S_S128x100000 c_8
  let v39 : IVec S128x100000 32 := addi v37 v38
  let v40 : IVec S128x100000 32 := addi v35 v39
  let c_9 : IVec S_ 32 := constantI S_ 32 17#32
  let v41 : IVec S128x100000 32 := broadcastInDim S128x100000 ![] bcast_S_S128x100000 c_9
  let v42 : IVec S128x100000 32 := Host.shli v39 v41
  let c_10 : IVec S_ 32 := constantI S_ 32 15#32
  let v43 : IVec S128x100000 32 := broadcastInDim S128x100000 ![] bcast_S_S128x100000 c_10
  let v44 : IVec S128x100000 32 := Host.shrui v39 v43
  let v45 : IVec S128x100000 32 := ori v42 v44
  let v46 : IVec S128x100000 32 := xori v40 v45
  let v47 : IVec S128x100000 32 := addi v40 v46
  let c_11 : IVec S_ 32 := constantI S_ 32 29#32
  let v48 : IVec S128x100000 32 := broadcastInDim S128x100000 ![] bcast_S_S128x100000 c_11
  let v49 : IVec S128x100000 32 := Host.shli v46 v48
  let c_12 : IVec S_ 32 := constantI S_ 32 3#32
  let v50 : IVec S128x100000 32 := broadcastInDim S128x100000 ![] bcast_S_S128x100000 c_12
  let v51 : IVec S128x100000 32 := Host.shrui v46 v50
  let v52 : IVec S128x100000 32 := ori v49 v51
  let v53 : IVec S128x100000 32 := xori v47 v52
  let v54 : IVec S128x100000 32 := addi v47 v53
  let c_13 : IVec S_ 32 := constantI S_ 32 16#32
  let v55 : IVec S128x100000 32 := broadcastInDim S128x100000 ![] bcast_S_S128x100000 c_13
  let v56 : IVec S128x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S128x100000 32) (v18 : IVec S128x100000 32) : IVec S128x100000 32 × IVec S128x100000 32 :=
  let v19 : IVec S128x100000 32 := xori v13 v18
  let v20 : IVec S128x100000 32 := addi v13 v19
  let c_4 : IVec S_ 32 := constantI S_ 32 26#32
  let v21 : IVec S128x100000 32 := broadcastInDim S128x100000 ![] bcast_S_S128x100000 c_4
  let v22 : IVec S128x100000 32 := Host.shli v19 v21
  let c_5 : IVec S_ 32 := constantI S_ 32 6#32
  let v23 : IVec S128x100000 32 := broadcastInDim S128x100000 ![] bcast_S_S128x100000 c_5
  let v24 : IVec S128x100000 32 := Host.shrui v19 v23
  let v25 : IVec S128x100000 32 := ori v22 v24
  let v26 : IVec S128x100000 32 := xori v20 v25
  let v27 : IVec S128x100000 32 := addi v20 v26
  let c_6 : IVec S_ 32 := constantI S_ 32 6#32
  let v28 : IVec S128x100000 32 := broadcastInDim S128x100000 ![] bcast_S_S128x100000 c_6
  let v29 : IVec S128x100000 32 := Host.shli v26 v28
  let c_7 : IVec S_ 32 := constantI S_ 32 26#32
  let v30 : IVec S128x100000 32 := broadcastInDim S128x100000 ![] bcast_S_S128x100000 c_7
  let v31 : IVec S128x100000 32 := Host.shrui v26 v30
  let v32 : IVec S128x100000 32 := ori v29 v31
  let v33 : IVec S128x100000 32 := xori v27 v32
  let v34 : IVec S128x100000 32 := broadcastInDim S128x100000 ![] bcast_S_S128x100000 arg1
  let v35 : IVec S128x100000 32 := addi v27 v34
  let v36 : IVec S128x100000 32 := broadcastInDim S128x100000 ![] bcast_S_S128x100000 v1
  let v37 : IVec S128x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S128x100000 32) (arg3 : IVec S128x100000 32) : IVec S128x100000 32 × IVec S128x100000 32 :=
  let v0 : IVec S_ 32 := xori arg0 arg1
  let c : IVec S_ 32 := constantI S_ 32 466688986#32
  let v1 : IVec S_ 32 := xori v0 c
  let v2 : IVec S128x100000 32 := broadcastInDim S128x100000 ![] bcast_S_S128x100000 arg0
  let v3 : IVec S128x100000 32 := addi arg2 v2
  let v4 : IVec S128x100000 32 := broadcastInDim S128x100000 ![] bcast_S_S128x100000 arg1
  let v5 : IVec S128x100000 32 := addi arg3 v4
  let v6 : IVec S128x100000 32 := addi v3 v5
  let c_0 : IVec S_ 32 := constantI S_ 32 13#32
  let v7 : IVec S128x100000 32 := broadcastInDim S128x100000 ![] bcast_S_S128x100000 c_0
  let v8 : IVec S128x100000 32 := Host.shli v5 v7
  let c_1 : IVec S_ 32 := constantI S_ 32 19#32
  let v9 : IVec S128x100000 32 := broadcastInDim S128x100000 ![] bcast_S_S128x100000 c_1
  let v10 : IVec S128x100000 32 := Host.shrui v5 v9
  let v11 : IVec S128x100000 32 := ori v8 v10
  let v12 : IVec S128x100000 32 := xori v6 v11
  let v13 : IVec S128x100000 32 := addi v6 v12
  let c_2 : IVec S_ 32 := constantI S_ 32 15#32
  let v14 : IVec S128x100000 32 := broadcastInDim S128x100000 ![] bcast_S_S128x100000 c_2
  let v15 : IVec S128x100000 32 := Host.shli v12 v14
  let c_3 : IVec S_ 32 := constantI S_ 32 17#32
  let v16 : IVec S128x100000 32 := broadcastInDim S128x100000 ![] bcast_S_S128x100000 c_3
  let v17 : IVec S128x100000 32 := Host.shrui v12 v16
  let v18 : IVec S128x100000 32 := ori v15 v17
  fn_threefry2x32_part1 (F := F) arg0 arg1 v1 v13 v18

def fn_uniform_part1 {F : FTy → Type} [FloatOps F] (v1 : FVec F S1x1 .f32) (v2 : FVec F S1x1 .f32) (v19 : IVec S128x100000 32) : FVec F S128x100000 .f32 :=
  let c_2 : IVec S_ 32 := constantI S_ 32 9#32
  let v20 : IVec S128x100000 32 := broadcastInDim S128x100000 ![] bcast_S_S128x100000 c_2
  let v21 : IVec S128x100000 32 := Host.shrui v19 v20
  let c_3 : IVec S_ 32 := constantI S_ 32 1065353216#32
  let v22 : IVec S128x100000 32 := broadcastInDim S128x100000 ![] bcast_S_S128x100000 c_3
  let v23 : IVec S128x100000 32 := ori v21 v22
  let v24 : FVec F S128x100000 .f32 := bitcastToFloat .f32 v23
  let cst : FVec F S_ .f32 := constant S_ .f32 0x3F800000#32
  let v25 : FVec F S128x100000 .f32 := broadcastInDim S128x100000 ![] bcast_S_S128x100000 cst
  let v26 : FVec F S128x100000 .f32 := subf v24 v25
  let v27 : FVec F S1x1 .f32 := subf v2 v1
  let v28 : FVec F S128x100000 .f32 := broadcastInDim S128x100000 ![0, 1] bcast_S1x1_S128x100000_0_1 v27
  let v29 : FVec F S128x100000 .f32 := mulf v26 v28
  let v30 : FVec F S128x100000 .f32 := broadcastInDim S128x100000 ![0, 1] bcast_S1x1_S128x100000_0_1 v1
  let v31 : FVec F S128x100000 .f32 := addf v29 v30
  let v32 : FVec F S128x100000 .f32 := broadcastInDim S128x100000 ![0, 1] bcast_S1x1_S128x100000_0_1 v1
  let v33 : FVec F S128x100000 .f32 := maximumf v32 v31
  v33

def fn_uniform {F : FTy → Type} [FloatOps F] (arg0 : IVec S2 32) (arg1 : FVec F S_ .f32) (arg2 : FVec F S_ .f32) : FVec F S128x100000 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S128x100000 64 := iotaInDim S128x100000 64 0
  let v8 : IVec S128x100000 64 := iotaInDim S128x100000 64 1
  let c : IVec S_ 64 := constantI S_ 64 100000#64
  let v9 : IVec S128x100000 64 := broadcastInDim S128x100000 ![] bcast_S_S128x100000 c
  let v10 : IVec S128x100000 64 := muli v9 v7
  let c_0 : IVec S_ 64 := constantI S_ 64 1#64
  let v11 : IVec S128x100000 64 := broadcastInDim S128x100000 ![] bcast_S_S128x100000 c_0
  let v12 : IVec S128x100000 64 := muli v11 v8
  let v13 : IVec S128x100000 64 := addi v10 v12
  let c_1 : IVec S_ 64 := constantI S_ 64 32#64
  let v14 : IVec S128x100000 64 := broadcastInDim S128x100000 ![] bcast_S_S128x100000 c_1
  let v15 : IVec S128x100000 64 := Host.shrui v13 v14
  let v16 : IVec S128x100000 32 := (trunci 32 · natLt_32_64) v13
  let v17 : IVec S128x100000 32 := (trunci 32 · natLt_32_64) v15
  let v18_0 : IVec S128x100000 32 := (fn_threefry2x32 (F := F) v4 v6 v17 v16).1
  let v18_1 : IVec S128x100000 32 := (fn_threefry2x32 (F := F) v4 v6 v17 v16).2
  let v19 : IVec S128x100000 32 := xori v18_0 v18_1
  fn_uniform_part1 (F := F) v1 v2 v19

def fn_gumbel {F : FTy → Type} [FloatOps F] (arg0 : IVec S2 32) : FVec F S128x100000 .f32 :=
  let cst : FVec F S_ .f32 := constant S_ .f32 0x3F800000#32
  let cst_0 : FVec F S_ .f32 := constant S_ .f32 0x00800000#32
  let v0 : FVec F S128x100000 .f32 := fn_uniform (F := F) arg0 cst cst_0
  let v1 : FVec F S128x100000 .f32 := Host.log v0
  let v2 : FVec F S128x100000 .f32 := Host.negf v1
  let v3 : FVec F S128x100000 .f32 := Host.log v2
  let v4 : FVec F S128x100000 .f32 := Host.negf v3
  v4

def fn_argmax {F : FTy → Type} [FloatOps F] (arg0 : FVec F S128x100000 .f32) : IVec S128 32 :=
  let v0 : IVec S128x100000 32 := iotaInDim S128x100000 32 1
  let cst : FVec F S_ .f32 := constant S_ .f32 0xFF800000#32
  let c : IVec S_ 32 := constantI S_ 32 0#32
  let v1_0 : FVec F S128 .f32 := (fun x y u v j => (Host.argReduce reducer_argmax_f32_i32 x y u v reducesTo_S128x100000_S128_d1 h_S_ j).1) arg0 v0 cst c
  let v1_1 : IVec S128 32 := (fun x y u v j => (Host.argReduce reducer_argmax_f32_i32 x y u v reducesTo_S128x100000_S128_d1 h_S_ j).2) arg0 v0 cst c
  v1_1

def fn_where {F : FTy → Type} [FloatOps F] (arg0 : IVec S128x100000 1) (arg1 : FVec F S_ .f32) (arg2 : FVec F S128x100000 .f32) : FVec F S128x100000 .f32 :=
  let v0 : FVec F S_ .f32 := id arg1
  let v1 : FVec F S128x100000 .f32 := broadcastInDim S128x100000 ![] bcast_S_S128x100000 v0
  let v2 : FVec F S128x100000 .f32 := select arg0 v1 arg2
  v2

def fn_part1 {F : FTy → Type} [FloatOps F] (main_v8 : FVec F S128x100000 .f32) (main_v15 : FVec F S128 .f32) (main_v17 : IVec S128x100000 1) : IVec S128x100000 1 × IVec S128 1 :=
  let main_cst_4 : FVec F S_ .f32 := constant S_ .f32 0xFF800000#32
  let main_v18 : FVec F S128 .f32 := (fun x v => Host.reduce FloatOps.maximumf x v reducesTo_S128x100000_S128_d1 h_S_) main_v8 main_cst_4
  let main_v19 : IVec S128 1 := cmpf .olt main_v15 main_v18
  (main_v17, main_v19)

def fn {F : FTy → Type} [FloatOps F] (main_arg0 : FVec F S128x100000 .f32) : IVec S128x100000 1 × IVec S128 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_v7 : FVec F S128x100000 .f32 := fn_gumbel (F := F) main_v6
  let main_v8 : FVec F S128x100000 .f32 := addf main_arg0 main_v7
  let main_v9 : IVec S128 32 := fn_argmax (F := F) main_v8
  let main_v10 : IVec S128x1 32 := broadcastInDim S128x1 ![0] bcast_S128_S128x1_0 main_v9
  let main_v11 : IVec S128x100000 32 := iotaInDim S128x100000 32 1
  let main_v12 : IVec S128x100000 32 := broadcastInDim S128x100000 ![0, 1] bcast_S128x1_S128x100000_0_1 main_v10
  let main_v13 : IVec S128x100000 1 := cmpi .eq main_v11 main_v12
  let main_cst : FVec F S_ .f32 := constant S_ .f32 0xFF800000#32
  let main_v14 : FVec F S128x100000 .f32 := fn_where (F := F) main_v13 main_cst main_v8
  let main_cst_2 : FVec F S_ .f32 := constant S_ .f32 0xFF800000#32
  let main_v15 : FVec F S128 .f32 := (fun x v => Host.reduce FloatOps.maximumf x v reducesTo_S128x100000_S128_d1 h_S_) main_v14 main_cst_2
  let main_cst_3 : FVec F S_ .f32 := constant S_ .f32 0x7F800000#32
  let main_v16 : FVec F S128x100000 .f32 := broadcastInDim S128x100000 ![] bcast_S_S128x100000 main_cst_3
  let main_v17 : IVec S128x100000 1 := cmpf .olt main_arg0 main_v16
  fn_part1 (F := F) main_v8 main_v15 main_v17
-- ==== Kernel.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S2x8x100000 : Shape := ⟨3, ![2, 8, 100000]⟩
abbrev S1x8x100000 : Shape := ⟨3, ![1, 8, 100000]⟩
abbrev S8x100000 : Shape := ⟨2, ![8, 100000]⟩
abbrev S8 : Shape := ⟨1, ![8]⟩
abbrev S8x1 : Shape := ⟨2, ![8, 1]⟩

abbrev nBuf : Space → Nat
  | .hbm => 280
  | .vmem => 4
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S128x100000, .i64⟩
  | 21 => ⟨S128x100000, .i64⟩
  | 22 => ⟨S_, .i64⟩
  | 23 => ⟨S128x100000, .i64⟩
  | 24 => ⟨S128x100000, .i64⟩
  | 25 => ⟨S_, .i64⟩
  | 26 => ⟨S128x100000, .i64⟩
  | 27 => ⟨S128x100000, .i64⟩
  | 28 => ⟨S128x100000, .i64⟩
  | 29 => ⟨S_, .i64⟩
  | 30 => ⟨S128x100000, .i64⟩
  | 31 => ⟨S128x100000, .i64⟩
  | 32 => ⟨S128x100000, .i32⟩
  | 33 => ⟨S128x100000, .i32⟩
  | 34 => ⟨S_, .i32⟩
  | 35 => ⟨S_, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S128x100000, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .f32⟩
  | 8 => ⟨S_, .f32⟩
  | 9 => ⟨S128x100000, .f32⟩
  | 10 => ⟨S128x100000, .f32⟩
  | 11 => ⟨S1x1, .f32⟩
  | 12 => ⟨S128x100000, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | .local _ .vmem, ⟨0, _⟩ => ⟨S2x8x100000, .f32⟩
  | .local _ .vmem, ⟨1, _⟩ => ⟨S2x8x100000, .f32⟩
  | .local _ .vmem, ⟨2, _⟩ => ⟨S2x8x100000, .f32⟩
  | .local _ .vmem, ⟨3, _⟩ => ⟨S2x8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8_0 : Ref sig .tc := ⟨.hbm, 278, rfl⟩
abbrev main_v8_1 : Ref sig .tc := ⟨.hbm, 279, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v6 : BitVec 1 := Scalar.cmpi .slt arg0 c15_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off2 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_30 : BitVec 32 := 0#32
  let c0_i32_31 : BitVec 32 := 0#32
  ![v2.toNat, 0, 0]
def k0_off3 (i : grid0.Coords) : Fin 2 → Nat :=
  let arg0 : BitVec 32 := BitVec.ofNat 32 (i 0).val
  let c1_i32_28 : BitVec 32 := 1#32
  let v68 : BitVec 32 := Scalar.addi arg0 c1_i32_28
  let c8_i32_29 : BitVec 32 := 8#32
  let v69 : BitVec 32 := Scalar.muli v68 c8_i32_29
  let c0_i32_32 : BitVec 32 := 0#32
  ![v69.toNat, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_3 : BitVec 32 := 0#32
  let c0_i32_4 : BitVec 32 := 0#32
  ![v0.toNat, 0, 0]
def k0_off6 (i : grid0.Coords) : Fin 2 → Nat :=
  let arg0 : BitVec 32 := BitVec.ofNat 32 (i 0).val
  let c8_i32 : BitVec 32 := 8#32
  let v9 : BitVec 32 := Scalar.muli arg0 c8_i32
  let c0_i32_5 : BitVec 32 := 0#32
  ![v9.toNat, 0]
def k0_cond3 (i : grid0.Coords) : BitVec 1 :=
  let arg0 : BitVec 32 := BitVec.ofNat 32 (i 0).val
  let c2_i32_9 : BitVec 32 := 2#32
  let v20 : BitVec 1 := Scalar.cmpi .sge arg0 c2_i32_9
  let v21 : BitVec 32 := Scalar.extui v20
  let c0_i32_10 : BitVec 32 := 0#32
  let v22 : BitVec 1 := Scalar.cmpi .ne v21 c0_i32_10
  v22

def k0_off7 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off8 (i : grid0.Coords) : Fin 2 → Nat :=
  let arg0 : BitVec 32 := BitVec.ofNat 32 (i 0).val
  let c2_i32_28 : BitVec 32 := 2#32
  let v68 : BitVec 32 := Scalar.subi arg0 c2_i32_28
  let c8_i32_29 : BitVec 32 := 8#32
  let v69 : BitVec 32 := Scalar.muli v68 c8_i32_29
  let c0_i32_30 : BitVec 32 := 0#32
  ![v69.toNat, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c0_i32_32 : BitVec 32 := 0#32
  ![v0.toNat, 0, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v23 : Index := Scalar.indexCast v0
  let c0 : Index := 0#32
  let c0_11 : Index := 0#32
  ![v23.toNat, 0, 0]
def k0_cond4 (i : grid0.Coords) : BitVec 1 :=
  let arg0 : BitVec 32 := BitVec.ofNat 32 (i 0).val
  let c15_i32_26 : BitVec 32 := 15#32
  let v65 : BitVec 1 := Scalar.cmpi .eq arg0 c15_i32_26
  let v66 : BitVec 32 := Scalar.extui v65
  let c0_i32_27 : BitVec 32 := 0#32
  let v67 : BitVec 1 := Scalar.cmpi .ne v66 c0_i32_27
  v67

def k0_off11 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off12 (i : grid0.Coords) : Fin 2 → Nat :=
  let arg0 : BitVec 32 := BitVec.ofNat 32 (i 0).val
  let c1_i32_28 : BitVec 32 := 1#32
  let v68 : BitVec 32 := Scalar.subi arg0 c1_i32_28
  let c8_i32_29 : BitVec 32 := 8#32
  let v69 : BitVec 32 := Scalar.muli v68 c8_i32_29
  let c0_i32_30 : BitVec 32 := 0#32
  ![v69.toNat, 0]
def k0_off13 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_31 : BitVec 32 := 0#32
  let c0_i32_32 : BitVec 32 := 0#32
  ![v2.toNat, 0, 0]
def k0_off14 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off15 (i : grid0.Coords) : Fin 2 → Nat :=
  let arg0 : BitVec 32 := BitVec.ofNat 32 (i 0).val
  let c8_i32 : BitVec 32 := 8#32
  let v9 : BitVec 32 := Scalar.muli arg0 c8_i32
  let c0_i32_36 : BitVec 32 := 0#32
  ![v9.toNat, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c0_i32_37 : BitVec 32 := 0#32
  let c0_i32_38 : BitVec 32 := 0#32
  ![v0.toNat, 0, 0]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S1 : Shape := ⟨1, ![1]⟩
abbrev S2 : Shape := ⟨1, ![2]⟩
abbrev S1x1 : Shape := ⟨2, ![1, 1]⟩
abbrev S1x100000 : Shape := ⟨2, ![1, 100000]⟩

abbrev nBuf : Space → Nat
  | .hbm => 313
  | .vmem => 0
  | .smem => 0
  | _ => 0

abbrev hbmTy0_0 (i : Nat) : BufTy := match i % 128 with
  | 0 => ⟨S128x100000, .f32⟩
  | 1 => ⟨S128x100000, .f32⟩
  | 2 => ⟨S_, .f32⟩
  | 3 => ⟨S128, .f32⟩
  | 4 => ⟨S128x1, .f32⟩
  | 5 => ⟨S128x1, .f32⟩
  | 6 => ⟨S128x100000, .f32⟩
  | 7 => ⟨S128x100000, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S128x100000, .i64⟩
  | 28 => ⟨S128x100000, .i64⟩
  | 29 => ⟨S_, .i64⟩
  | 30 => ⟨S128x100000, .i64⟩
  | 31 => ⟨S128x100000, .i64⟩
  | 32 => ⟨S_, .i64⟩
  | 33 => ⟨S128x100000, .i64⟩
  | 34 => ⟨S128x100000, .i64⟩
  | 35 => ⟨S128x100000, .i64⟩
  | 36 => ⟨S_, .i64⟩
  | 37 => ⟨S128x100000, .i64⟩
  | 38 => ⟨S128x100000, .i64⟩
  | 39 => ⟨S128x100000, .i32⟩
  | 40 => ⟨S128x100000, .i32⟩
  | 41 => ⟨S_, .i32⟩
  | 42 => ⟨S_, .i32⟩
  | 43 => ⟨S_, .i32⟩
  | 44 => ⟨S128x100000, .i32⟩
  | 45 => ⟨S128x100000, .i32⟩
  | 46 => ⟨S128x100000, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S128x100000, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S128x100000, .f32⟩
  | 15 => ⟨S_, .f32⟩
  | 16 => ⟨S128x100000, .f32⟩
  | 17 => ⟨S128x100000, .f32⟩
  | 18 => ⟨S1x1, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128, .f32⟩
  | 32 => ⟨S_, .f32⟩
  | 33 => ⟨S128, .f32⟩
  | 34 => ⟨S128, .f32⟩
  | 35 => ⟨S128x1, .f32⟩
  | 36 => ⟨S128x100000, .f32⟩
  | 37 => ⟨S128x100000, .f32⟩
  | 38 => ⟨S128x100000, .f32⟩
  | 39 => ⟨S_, .f32⟩
  | 40 => ⟨S128, .f32⟩
  | 41 => ⟨S128x1, .f32⟩
  | 42 => ⟨S128x100000, .f32⟩
  | 43 => ⟨S128x100000, .f32⟩
  | 44 => ⟨S128x100000, .i32⟩
  | 45 => ⟨S_, .f32⟩
  | 46 => ⟨S_, .i32⟩
  | 47 => ⟨S128, .f32⟩
  | 48 => ⟨S128, .i32⟩
  | 49 => ⟨S128x1, .i32⟩
  | 50 => ⟨S1x100000, .i32⟩
  | 51 => ⟨S128x100000, .i32⟩
  | 52 => ⟨S128x100000, .i32⟩
  | 53 => ⟨S128x100000, .i1⟩
  | 54 => ⟨S128x100000, .f32⟩
  | 55 => ⟨S128x100000, .f32⟩
  | 56 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_cst_0 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_c : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_c_0 : Ref sig .tc := ⟨.hbm, 32, rfl⟩
abbrev main_call0_call0_v11 : Ref sig .tc := ⟨.hbm, 33, rfl⟩
abbrev main_call0_call0_v12 : Ref sig .tc := ⟨.hbm, 34, rfl⟩
abbrev main_call0_call0_v13 : Ref sig .tc := ⟨.hbm, 35, rfl⟩
abbrev main_call0_call0_c_1 : Ref sig .tc := ⟨.hbm, 36, rfl⟩
abbrev main_call0_call0_v14 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_v17 : Ref sig .tc := ⟨.hbm, 40, rfl⟩
abbrev main_call0_call0_call0_v0 : Ref sig .tc := ⟨.hbm, 41, rfl⟩
abbrev main_call0_call0_call0_c : Ref sig .tc := ⟨.hbm, 42, rfl⟩
abbrev main_call0_call0_call0_v1 : Ref sig .tc := ⟨.hbm, 43, rfl⟩
abbrev main_call0_call0_call0_v2 : Ref sig .tc := ⟨.hbm, 44, rfl⟩
abbrev main_call0_call0_call0_v3 : Ref sig .tc := ⟨.hbm, 45, rfl⟩
abbrev main_call0_call0_call0_v4 : Ref sig .tc := ⟨.hbm, 46, rfl⟩
abbrev main_call0_call0_call0_v5 : Ref sig .tc := ⟨.hbm, 47, rfl⟩
abbrev main_call0_call0_call0_v6 : Ref sig .tc := ⟨.hbm, 48, rfl⟩
abbrev main_call0_call0_call0_c_0 : Ref sig .tc := ⟨.hbm, 49, rfl⟩
abbrev main_call0_call0_call0_v7 : Ref sig .tc := ⟨.hbm, 50, rfl⟩
abbrev main_call0_call0_call0_v8 : Ref sig .tc := ⟨.hbm, 51, rfl⟩
abbrev main_call0_call0_call0_c_1 : Ref sig .tc := ⟨.hbm, 52, rfl⟩
abbrev main_call0_call0_call0_v9 : Ref sig .tc := ⟨.hbm, 53, rfl⟩
abbrev main_call0_call0_call0_v10 : Ref sig .tc := ⟨.hbm, 54, rfl⟩
abbrev main_call0_call0_call0_v11 : Ref sig .tc := ⟨.hbm, 55, rfl⟩
abbrev main_call0_call0_call0_v12 : Ref sig .tc := ⟨.hbm, 56, rfl⟩
abbrev main_call0_call0_call0_v13 : Ref sig .tc := ⟨.hbm, 57, rfl⟩
abbrev main_call0_call0_call0_c_2 : Ref sig .tc := ⟨.hbm, 58, rfl⟩
abbrev main_call0_call0_call0_v14 : Ref sig .tc := ⟨.hbm, 59, rfl⟩
abbrev main_call0_call0_call0_v15 : Ref sig .tc := ⟨.hbm, 60, rfl⟩
abbrev main_call0_call0_call0_c_3 : Ref sig .tc := ⟨.hbm, 61, rfl⟩
abbrev main_call0_call0_call0_v16 : Ref sig .tc := ⟨.hbm, 62, rfl⟩
abbrev main_call0_call0_call0_v17 : Ref sig .tc := ⟨.hbm, 63, rfl⟩
abbrev main_call0_call0_call0_v18 : Ref sig .tc := ⟨.hbm, 64, rfl⟩
abbrev main_call0_call0_call0_v19 : Ref sig .tc := ⟨.hbm, 65, rfl⟩
abbrev main_call0_call0_call0_v20 : Ref sig .tc := ⟨.hbm, 66, rfl⟩
abbrev main_call0_call0_call0_c_4 : Ref sig .tc := ⟨.hbm, 67, rfl⟩
abbrev main_call0_call0_call0_v21 : Ref sig .tc := ⟨.hbm, 68, rfl⟩
abbrev main_call0_call0_call0_v22 : Ref sig .tc := ⟨.hbm, 69, rfl⟩
abbrev main_call0_call0_call0_c_5 : Ref sig .tc := ⟨.hbm, 70, rfl⟩
abbrev main_call0_call0_call0_v23 : Ref sig .tc := ⟨.hbm, 71, rfl⟩
abbrev main_call0_call0_call0_v24 : Ref sig .tc := ⟨.hbm, 72, rfl⟩
abbrev main_call0_call0_call0_v25 : Ref sig .tc := ⟨.hbm, 73, rfl⟩
abbrev main_call0_call0_call0_v26 : Ref sig .tc := ⟨.hbm, 74, rfl⟩
abbrev main_call0_call0_call0_v27 : Ref sig .tc := ⟨.hbm, 75, rfl⟩
abbrev main_call0_call0_call0_c_6 : Ref sig .tc := ⟨.hbm, 76, rfl⟩
abbrev main_call0_call0_call0_v28 : Ref sig .tc := ⟨.hbm, 77, rfl⟩
abbrev main_call0_call0_call0_v29 : Ref sig .tc := ⟨.hbm, 78, rfl⟩
abbrev main_call0_call0_call0_c_7 : Ref sig .tc := ⟨.hbm, 79, rfl⟩
abbrev main_call0_call0_call0_v30 : Ref sig .tc := ⟨.hbm, 80, rfl⟩
abbrev main_call0_call0_call0_v31 : Ref sig .tc := ⟨.hbm, 81, rfl⟩
abbrev main_call0_call0_call0_v32 : Ref sig .tc := ⟨.hbm, 82, rfl⟩
abbrev main_call0_call0_call0_v33 : Ref sig .tc := ⟨.hbm, 83, rfl⟩
abbrev main_call0_call0_call0_v34 : Ref sig .tc := ⟨.hbm, 84, rfl⟩
abbrev main_call0_call0_call0_v35 : Ref sig .tc := ⟨.hbm, 85, rfl⟩
abbrev main_call0_call0_call0_v36 : Ref sig .tc := ⟨.hbm, 86, rfl⟩
abbrev main_call0_call0_call0_v37 : Ref sig .tc := ⟨.hbm, 87, rfl⟩
abbrev main_call0_call0_call0_c_8 : Ref sig .tc := ⟨.hbm, 88, rfl⟩
abbrev main_call0_call0_call0_v38 : Ref sig .tc := ⟨.hbm, 89, rfl⟩
abbrev main_call0_call0_call0_v39 : Ref sig .tc := ⟨.hbm, 90, rfl⟩
abbrev main_call0_call0_call0_v40 : Ref sig .tc := ⟨.hbm, 91, rfl⟩
abbrev main_call0_call0_call0_c_9 : Ref sig .tc := ⟨.hbm, 92, rfl⟩
abbrev main_call0_call0_call0_v41 : Ref sig .tc := ⟨.hbm, 93, rfl⟩
abbrev main_call0_call0_call0_v42 : Ref sig .tc := ⟨.hbm, 94, rfl⟩
abbrev main_call0_call0_call0_c_10 : Ref sig .tc := ⟨.hbm, 95, rfl⟩
abbrev main_call0_call0_call0_v43 : Ref sig .tc := ⟨.hbm, 96, rfl⟩
abbrev main_call0_call0_call0_v44 : Ref sig .tc := ⟨.hbm, 97, rfl⟩
abbrev main_call0_call0_call0_v45 : Ref sig .tc := ⟨.hbm, 98, rfl⟩
abbrev main_call0_call0_call0_v46 : Ref sig .tc := ⟨.hbm, 99, rfl⟩
abbrev main_call0_call0_call0_v47 : Ref sig .tc := ⟨.hbm, 100, rfl⟩
abbrev main_call0_call0_call0_c_11 : Ref sig .tc := ⟨.hbm, 101, rfl⟩
abbrev main_call0_call0_call0_v48 : Ref sig .tc := ⟨.hbm, 102, rfl⟩
abbrev main_call0_call0_call0_v49 : Ref sig .tc := ⟨.hbm, 103, rfl⟩
abbrev main_call0_call0_call0_c_12 : Ref sig .tc := ⟨.hbm, 104, rfl⟩
abbrev main_call0_call0_call0_v50 : Ref sig .tc := ⟨.hbm, 105, rfl⟩
abbrev main_call0_call0_call0_v51 : Ref sig .tc := ⟨.hbm, 106, rfl⟩
abbrev main_call0_call0_call0_v52 : Ref sig .tc := ⟨.hbm, 107, rfl⟩
abbrev main_call0_call0_call0_v53 : Ref sig .tc := ⟨.hbm, 108, rfl⟩
abbrev main_call0_call0_call0_v54 : Ref sig .tc := ⟨.hbm, 109, rfl⟩
abbrev main_call0_call0_call0_c_13 : Ref sig .tc := ⟨.hbm, 110, rfl⟩
abbrev main_call0_call0_call0_v55 : Ref sig .tc := ⟨.hbm, 111, rfl⟩
abbrev main_call0_call0_call0_v56 : Ref sig .tc := ⟨.hbm, 112, rfl⟩
abbrev main_call0_call0_call0_c_14 : Ref sig .tc := ⟨.hbm, 113, rfl⟩
abbrev main_call0_call0_call0_v57 : Ref sig .tc := ⟨.hbm, 114, rfl⟩
abbrev main_call0_call0_call0_v58 : Ref sig .tc := ⟨.hbm, 115, rfl⟩
abbrev main_call0_call0_call0_v59 : Ref sig .tc := ⟨.hbm, 116, rfl⟩
abbrev main_call0_call0_call0_v60 : Ref sig .tc := ⟨.hbm, 117, rfl⟩
abbrev main_call0_call0_call0_v61 : Ref sig .tc := ⟨.hbm, 118, rfl⟩
abbrev main_call0_call0_call0_c_15 : Ref sig .tc := ⟨.hbm, 119, rfl⟩
abbrev main_call0_call0_call0_v62 : Ref sig .tc := ⟨.hbm, 120, rfl⟩
abbrev main_call0_call0_call0_v63 : Ref sig .tc := ⟨.hbm, 121, rfl⟩
abbrev main_call0_call0_call0_c_16 : Ref sig .tc := ⟨.hbm, 122, rfl⟩
abbrev main_call0_call0_call0_v64 : Ref sig .tc := ⟨.hbm, 123, rfl⟩
abbrev main_call0_call0_call0_v65 : Ref sig .tc := ⟨.hbm, 124, rfl⟩
abbrev main_call0_call0_call0_v66 : Ref sig .tc := ⟨.hbm, 125, rfl⟩
abbrev main_call0_call0_call0_v67 : Ref sig .tc := ⟨.hbm, 126, rfl⟩
abbrev main_call0_call0_call0_v68 : Ref sig .tc := ⟨.hbm, 127, rfl⟩
abbrev main_call0_call0_call0_v69 : Ref sig .tc := ⟨.hbm, 128, rfl⟩
abbrev main_call0_call0_call0_v70 : Ref sig .tc := ⟨.hbm, 129, rfl⟩
abbrev main_call0_call0_call0_v71 : Ref sig .tc := ⟨.hbm, 130, rfl⟩
abbrev main_call0_call0_call0_c_17 : Ref sig .tc := ⟨.hbm, 131, rfl⟩
abbrev main_call0_call0_call0_v72 : Ref sig .tc := ⟨.hbm, 132, rfl⟩
abbrev main_call0_call0_call0_v73 : Ref sig .tc := ⟨.hbm, 133, rfl⟩
abbrev main_call0_call0_call0_v74 : Ref sig .tc := ⟨.hbm, 134, rfl⟩
abbrev main_call0_call0_call0_c_18 : Ref sig .tc := ⟨.hbm, 135, rfl⟩
abbrev main_call0_call0_call0_v75 : Ref sig .tc := ⟨.hbm, 136, rfl⟩
abbrev main_call0_call0_call0_v76 : Ref sig .tc := ⟨.hbm, 137, rfl⟩
abbrev main_call0_call0_call0_c_19 : Ref sig .tc := ⟨.hbm, 138, rfl⟩
abbrev main_call0_call0_call0_v77 : Ref sig .tc := ⟨.hbm, 139, rfl⟩
abbrev main_call0_call0_call0_v78 : Ref sig .tc := ⟨.hbm, 140, rfl⟩
abbrev main_call0_call0_call0_v79 : Ref sig .tc := ⟨.hbm, 141, rfl⟩
abbrev main_call0_call0_call0_v80 : Ref sig .tc := ⟨.hbm, 142, rfl⟩
abbrev main_call0_call0_call0_v81 : Ref sig .tc := ⟨.hbm, 143, rfl⟩
abbrev main_call0_call0_call0_c_20 : Ref sig .tc := ⟨.hbm, 144, rfl⟩
abbrev main_call0_call0_call0_v82 : Ref sig .tc := ⟨.hbm, 145, rfl⟩
abbrev main_call0_call0_call0_v83 : Ref sig .tc := ⟨.hbm, 146, rfl⟩
abbrev main_call0_call0_call0_c_21 : Ref sig .tc := ⟨.hbm, 147, rfl⟩
abbrev main_call0_call0_call0_v84 : Ref sig .tc := ⟨.hbm, 148, rfl⟩
abbrev main_call0_call0_call0_v85 : Ref sig .tc := ⟨.hbm, 149, rfl⟩
abbrev main_call0_call0_call0_v86 : Ref sig .tc := ⟨.hbm, 150, rfl⟩
abbrev main_call0_call0_call0_v87 : Ref sig .tc := ⟨.hbm, 151, rfl⟩
abbrev main_call0_call0_call0_v88 : Ref sig .tc := ⟨.hbm, 152, rfl⟩
abbrev main_call0_call0_call0_c_22 : Ref sig .tc := ⟨.hbm, 153, rfl⟩
abbrev main_call0_call0_call0_v89 : Ref sig .tc := ⟨.hbm, 154, rfl⟩
abbrev main_call0_call0_call0_v90 : Ref sig .tc := ⟨.hbm, 155, rfl⟩
abbrev main_call0_call0_call0_c_23 : Ref sig .tc := ⟨.hbm, 156, rfl⟩
abbrev main_call0_call0_call0_v91 : Ref sig .tc := ⟨.hbm, 157, rfl⟩
abbrev main_call0_call0_call0_v92 : Ref sig .tc := ⟨.hbm, 158, rfl⟩
abbrev main_call0_call0_call0_v93 : Ref sig .tc := ⟨.hbm, 159, rfl⟩
abbrev main_call0_call0_call0_v94 : Ref sig .tc := ⟨.hbm, 160, rfl⟩
abbrev main_call0_call0_call0_v95 : Ref sig .tc := ⟨.hbm, 161, rfl⟩
abbrev main_call0_call0_call0_c_24 : Ref sig .tc := ⟨.hbm, 162, rfl⟩
abbrev main_call0_call0_call0_v96 : Ref sig .tc := ⟨.hbm, 163, rfl⟩
abbrev main_call0_call0_call0_v97 : Ref sig .tc := ⟨.hbm, 164, rfl⟩
abbrev main_call0_call0_call0_c_25 : Ref sig .tc := ⟨.hbm, 165, rfl⟩
abbrev main_call0_call0_call0_v98 : Ref sig .tc := ⟨.hbm, 166, rfl⟩
abbrev main_call0_call0_call0_v99 : Ref sig .tc := ⟨.hbm, 167, rfl⟩
abbrev main_call0_call0_call0_v100 : Ref sig .tc := ⟨.hbm, 168, rfl⟩
abbrev main_call0_call0_call0_v101 : Ref sig .tc := ⟨.hbm, 169, rfl⟩
abbrev main_call0_call0_call0_v102 : Ref sig .tc := ⟨.hbm, 170, rfl⟩
abbrev main_call0_call0_call0_v103 : Ref sig .tc := ⟨.hbm, 171, rfl⟩
abbrev main_call0_call0_call0_v104 : Ref sig .tc := ⟨.hbm, 172, rfl⟩
abbrev main_call0_call0_call0_v105 : Ref sig .tc := ⟨.hbm, 173, rfl⟩
abbrev main_call0_call0_call0_c_26 : Ref sig .tc := ⟨.hbm, 174, rfl⟩
abbrev main_call0_call0_call0_v106 : Ref sig .tc := ⟨.hbm, 175, rfl⟩
abbrev main_call0_call0_call0_v107 : Ref sig .tc := ⟨.hbm, 176, rfl⟩
abbrev main_call0_call0_call0_v108 : Ref sig .tc := ⟨.hbm, 177, rfl⟩
abbrev main_call0_call0_call0_c_27 : Ref sig .tc := ⟨.hbm, 178, rfl⟩
abbrev main_call0_call0_call0_v109 : Ref sig .tc := ⟨.hbm, 179, rfl⟩
abbrev main_call0_call0_call0_v110 : Ref sig .tc := ⟨.hbm, 180, rfl⟩
abbrev main_call0_call0_call0_c_28 : Ref sig .tc := ⟨.hbm, 181, rfl⟩
abbrev main_call0_call0_call0_v111 : Ref sig .tc := ⟨.hbm, 182, rfl⟩
abbrev main_call0_call0_call0_v112 : Ref sig .tc := ⟨.hbm, 183, rfl⟩
abbrev main_call0_call0_call0_v113 : Ref sig .tc := ⟨.hbm, 184, rfl⟩
abbrev main_call0_call0_call0_v114 : Ref sig .tc := ⟨.hbm, 185, rfl⟩
abbrev main_call0_call0_call0_v115 : Ref sig .tc := ⟨.hbm, 186, rfl⟩
abbrev main_call0_call0_call0_c_29 : Ref sig .tc := ⟨.hbm, 187, rfl⟩
abbrev main_call0_call0_call0_v116 : Ref sig .tc := ⟨.hbm, 188, rfl⟩
abbrev main_call0_call0_call0_v117 : Ref sig .tc := ⟨.hbm, 189, rfl⟩
abbrev main_call0_call0_call0_c_30 : Ref sig .tc := ⟨.hbm, 190, rfl⟩
abbrev main_call0_call0_call0_v118 : Ref sig .tc := ⟨.hbm, 191, rfl⟩
abbrev main_call0_call0_call0_v119 : Ref sig .tc := ⟨.hbm, 192, rfl⟩
abbrev main_call0_call0_call0_v120 : Ref sig .tc := ⟨.hbm, 193, rfl⟩
abbrev main_call0_call0_call0_v121 : Ref sig .tc := ⟨.hbm, 194, rfl⟩
abbrev main_call0_call0_call0_v122 : Ref sig .tc := ⟨.hbm, 195, rfl⟩
abbrev main_call0_call0_call0_c_31 : Ref sig .tc := ⟨.hbm, 196, rfl⟩
abbrev main_call0_call0_call0_v123 : Ref sig .tc := ⟨.hbm, 197, rfl⟩
abbrev main_call0_call0_call0_v124 : Ref sig .tc := ⟨.hbm, 198, rfl⟩
abbrev main_call0_call0_call0_c_32 : Ref sig .tc := ⟨.hbm, 199, rfl⟩
abbrev main_call0_call0_call0_v125 : Ref sig .tc := ⟨.hbm, 200, rfl⟩
abbrev main_call0_call0_call0_v126 : Ref sig .tc := ⟨.hbm, 201, rfl⟩
abbrev main_call0_call0_call0_v127 : Ref sig .tc := ⟨.hbm, 202, rfl⟩
abbrev main_call0_call0_call0_v128 : Ref sig .tc := ⟨.hbm, 203, rfl⟩
abbrev main_call0_call0_call0_v129 : Ref sig .tc := ⟨.hbm, 204, rfl⟩
abbrev main_call0_call0_call0_c_33 : Ref sig .tc := ⟨.hbm, 205, rfl⟩
abbrev main_call0_call0_call0_v130 : Ref sig .tc := ⟨.hbm, 206, rfl⟩
abbrev main_call0_call0_call0_v131 : Ref sig .tc := ⟨.hbm, 207, rfl⟩
abbrev main_call0_call0_call0_c_34 : Ref sig .tc := ⟨.hbm, 208, rfl⟩
abbrev main_call0_call0_call0_v132 : Ref sig .tc := ⟨.hbm, 209, rfl⟩
abbrev main_call0_call0_call0_v133 : Ref sig .tc := ⟨.hbm, 210, rfl⟩
abbrev main_call0_call0_call0_v134 : Ref sig .tc := ⟨.hbm, 211, rfl⟩
abbrev main_call0_call0_call0_v135 : Ref sig .tc := ⟨.hbm, 212, rfl⟩
abbrev main_call0_call0_call0_v136 : Ref sig .tc := ⟨.hbm, 213, rfl⟩
abbrev main_call0_call0_call0_v137 : Ref sig .tc := ⟨.hbm, 214, rfl⟩
abbrev main_call0_call0_call0_v138 : Ref sig .tc := ⟨.hbm, 215, rfl⟩
abbrev main_call0_call0_call0_v139 : Ref sig .tc := ⟨.hbm, 216, rfl⟩
abbrev main_call0_call0_call0_c_35 : Ref sig .tc := ⟨.hbm, 217, rfl⟩
abbrev main_call0_call0_call0_v140 : Ref sig .tc := ⟨.hbm, 218, rfl⟩
abbrev main_call0_call0_call0_v141 : Ref sig .tc := ⟨.hbm, 219, rfl⟩
abbrev main_call0_call0_call0_v142 : Ref sig .tc := ⟨.hbm, 220, rfl⟩
abbrev main_call0_call0_call0_c_36 : Ref sig .tc := ⟨.hbm, 221, rfl⟩
abbrev main_call0_call0_call0_v143 : Ref sig .tc := ⟨.hbm, 222, rfl⟩
abbrev main_call0_call0_call0_v144 : Ref sig .tc := ⟨.hbm, 223, rfl⟩
abbrev main_call0_call0_call0_c_37 : Ref sig .tc := ⟨.hbm, 224, rfl⟩
abbrev main_call0_call0_call0_v145 : Ref sig .tc := ⟨.hbm, 225, rfl⟩
abbrev main_call0_call0_call0_v146 : Ref sig .tc := ⟨.hbm, 226, rfl⟩
abbrev main_call0_call0_call0_v147 : Ref sig .tc := ⟨.hbm, 227, rfl⟩
abbrev main_call0_call0_call0_v148 : Ref sig .tc := ⟨.hbm, 228, rfl⟩
abbrev main_call0_call0_call0_v149 : Ref sig .tc := ⟨.hbm, 229, rfl⟩
abbrev main_call0_call0_call0_c_38 : Ref sig .tc := ⟨.hbm, 230, rfl⟩
abbrev main_call0_call0_call0_v150 : Ref sig .tc := ⟨.hbm, 231, rfl⟩
abbrev main_call0_call0_call0_v151 : Ref sig .tc := ⟨.hbm, 232, rfl⟩
abbrev main_call0_call0_call0_c_39 : Ref sig .tc := ⟨.hbm, 233, rfl⟩
abbrev main_call0_call0_call0_v152 : Ref sig .tc := ⟨.hbm, 234, rfl⟩
abbrev main_call0_call0_call0_v153 : Ref sig .tc := ⟨.hbm, 235, rfl⟩
abbrev main_call0_call0_call0_v154 : Ref sig .tc := ⟨.hbm, 236, rfl⟩
abbrev main_call0_call0_call0_v155 : Ref sig .tc := ⟨.hbm, 237, rfl⟩
abbrev main_call0_call0_call0_v156 : Ref sig .tc := ⟨.hbm, 238, rfl⟩
abbrev main_call0_call0_call0_c_40 : Ref sig .tc := ⟨.hbm, 239, rfl⟩
abbrev main_call0_call0_call0_v157 : Ref sig .tc := ⟨.hbm, 240, rfl⟩
abbrev main_call0_call0_call0_v158 : Ref sig .tc := ⟨.hbm, 241, rfl⟩
abbrev main_call0_call0_call0_c_41 : Ref sig .tc := ⟨.hbm, 242, rfl⟩
abbrev main_call0_call0_call0_v159 : Ref sig .tc := ⟨.hbm, 243, rfl⟩
abbrev main_call0_call0_call0_v160 : Ref sig .tc := ⟨.hbm, 244, rfl⟩
abbrev main_call0_call0_call0_v161 : Ref sig .tc := ⟨.hbm, 245, rfl⟩
abbrev main_call0_call0_call0_v162 : Ref sig .tc := ⟨.hbm, 246, rfl⟩
abbrev main_call0_call0_call0_v163 : Ref sig .tc := ⟨.hbm, 247, rfl⟩
abbrev main_call0_call0_call0_c_42 : Ref sig .tc := ⟨.hbm, 248, rfl⟩
abbrev main_call0_call0_call0_v164 : Ref sig .tc := ⟨.hbm, 249, rfl⟩
abbrev main_call0_call0_call0_v165 : Ref sig .tc := ⟨.hbm, 250, rfl⟩
abbrev main_call0_call0_call0_c_43 : Ref sig .tc := ⟨.hbm, 251, rfl⟩
abbrev main_call0_call0_call0_v166 : Ref sig .tc := ⟨.hbm, 252, rfl⟩
abbrev main_call0_call0_call0_v167 : Ref sig .tc := ⟨.hbm, 253, rfl⟩
abbrev main_call0_call0_call0_v168 : Ref sig .tc := ⟨.hbm, 254, rfl⟩
abbrev main_call0_call0_call0_v169 : Ref sig .tc := ⟨.hbm, 255, rfl⟩
abbrev main_call0_call0_call0_v170 : Ref sig .tc := ⟨.hbm, 256, rfl⟩
abbrev main_call0_call0_v18_0 : Ref sig .tc := ⟨.hbm, 257, rfl⟩
abbrev main_call0_call0_call0_v172 : Ref sig .tc := ⟨.hbm, 258, rfl⟩
abbrev main_call0_call0_call0_v173 : Ref sig .tc := ⟨.hbm, 259, rfl⟩
abbrev main_call0_call0_call0_c_44 : Ref sig .tc := ⟨.hbm, 260, rfl⟩
abbrev main_call0_call0_call0_v174 : Ref sig .tc := ⟨.hbm, 261, rfl⟩
abbrev main_call0_call0_v18_1 : Ref sig .tc := ⟨.hbm, 262, rfl⟩
abbrev main_call0_call0_v19 : Ref sig .tc := ⟨.hbm, 263, rfl⟩
abbrev main_call0_call0_c_2 : Ref sig .tc := ⟨.hbm, 264, rfl⟩
abbrev main_call0_call0_v20 : Ref sig .tc := ⟨.hbm, 265, rfl⟩
abbrev main_call0_call0_v21 : Ref sig .tc := ⟨.hbm, 266, rfl⟩
abbrev main_call0_call0_c_3 : Ref sig .tc := ⟨.hbm, 267, rfl⟩
abbrev main_call0_call0_v22 : Ref sig .tc := ⟨.hbm, 268, rfl⟩
abbrev main_call0_call0_v23 : Ref sig .tc := ⟨.hbm, 269, rfl⟩
abbrev main_call0_call0_v24 : Ref sig .tc := ⟨.hbm, 270, rfl⟩
abbrev main_call0_call0_cst : Ref sig .tc := ⟨.hbm, 271, rfl⟩
abbrev main_call0_call0_v25 : Ref sig .tc := ⟨.hbm, 272, rfl⟩
abbrev main_call0_call0_v26 : Ref sig .tc := ⟨.hbm, 273, rfl⟩
abbrev main_call0_call0_v27 : Ref sig .tc := ⟨.hbm, 274, rfl⟩
abbrev main_call0_call0_v28 : Ref sig .tc := ⟨.hbm, 275, rfl⟩
abbrev main_call0_call0_v29 : Ref sig .tc := ⟨.hbm, 276, rfl⟩
abbrev main_call0_call0_v30 : Ref sig .tc := ⟨.hbm, 277, rfl⟩
abbrev main_call0_call0_v31 : Ref sig .tc := ⟨.hbm, 278, rfl⟩
abbrev main_call0_call0_v32 : Ref sig .tc := ⟨.hbm, 279, rfl⟩
abbrev main_call0_v0 : Ref sig .tc := ⟨.hbm, 280, rfl⟩
abbrev main_call0_v1 : Ref sig .tc := ⟨.hbm, 281, rfl⟩
abbrev main_call0_v2 : Ref sig .tc := ⟨.hbm, 282, rfl⟩
abbrev main_call0_v3 : Ref sig .tc := ⟨.hbm, 283, rfl⟩
abbrev main_v13 : Ref sig .tc := ⟨.hbm, 284, rfl⟩
abbrev main_v14 : Ref sig .tc := ⟨.hbm, 285, rfl⟩
abbrev main_cst_2 : Ref sig .tc := ⟨.hbm, 286, rfl⟩
abbrev main_v15 : Ref sig .tc := ⟨.hbm, 287, rfl⟩
abbrev main_cst_3 : Ref sig .tc := ⟨.hbm, 288, rfl⟩
abbrev main_v16 : Ref sig .tc := ⟨.hbm, 289, rfl⟩
abbrev main_v17 : Ref sig .tc := ⟨.hbm, 290, rfl⟩
abbrev main_v18 : Ref sig .tc := ⟨.hbm, 291, rfl⟩
abbrev main_v19 : Ref sig .tc := ⟨.hbm, 292, rfl⟩
abbrev main_v20 : Ref sig .tc := ⟨.hbm, 293, rfl⟩
abbrev main_v21 : Ref sig .tc := ⟨.hbm, 294, rfl⟩
abbrev main_cst_4 : Ref sig .tc := ⟨.hbm, 295, rfl⟩
abbrev main_v22 : Ref sig .tc := ⟨.hbm, 296, rfl⟩
abbrev main_v23 : Ref sig .tc := ⟨.hbm, 297, rfl⟩
abbrev main_v24 : Ref sig .tc := ⟨.hbm, 298, rfl⟩
abbrev main_v25 : Ref sig .tc := ⟨.hbm, 299, rfl⟩
abbrev main_call1_v0 : Ref sig .tc := ⟨.hbm, 300, rfl⟩
abbrev main_call1_cst : Ref sig .tc := ⟨.hbm, 301, rfl⟩
abbrev main_call1_c : Ref sig .tc := ⟨.hbm, 302, rfl⟩
abbrev main_call1_v1_0 : Ref sig .tc := ⟨.hbm, 303, rfl⟩
abbrev main_v26 : Ref sig .tc := ⟨.hbm, 304, rfl⟩
abbrev main_call2_v0 : Ref sig .tc := ⟨.hbm, 305, rfl⟩
abbrev main_call2_v1 : Ref sig .tc := ⟨.hbm, 306, rfl⟩
abbrev main_call2_v2 : Ref sig .tc := ⟨.hbm, 307, rfl⟩
abbrev main_call2_v3 : Ref sig .tc := ⟨.hbm, 308, rfl⟩
abbrev main_call2_v4 : Ref sig .tc := ⟨.hbm, 309, rfl⟩
abbrev main_v27 : Ref sig .tc := ⟨.hbm, 310, rfl⟩
abbrev main_v28 : Ref sig .tc := ⟨.hbm, 311, rfl⟩
abbrev main_v29 : Ref sig .tc := ⟨.hbm, 312, rfl⟩

abbrev nD : Nat := 1
abbrev τ : Topo := Topo.v7x

variable {F : FTy → Type} [FloatOps F]
-- ==== Proof.Rings.lean ====
/-
  The four rings of transfers of the kernel, stated once over the buffers they use.

  Two rings READ: the logits and the noise come in eight rows at a time, block `b` into slot `b % 2` of a buffer of two
  slots, one block ahead of the point that uses it. Two rings WRITE: the two results leave in the same blocks from a
  buffer of two slots, and a copy is waited for two points later. All four have one geometry, so slots, blocks of rows,
  cells, the pieces a transfer holds and what enters and leaves a ring are stated for any whole buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance : NeZero grid0.N := ⟨by rw [N_0]; decide⟩

/-! ## Slots, blocks of rows, cells -/

theorem inb_slot (s : Fin 2) : ∀ a, (![s.val, 0, 0] : Fin 3 → Nat) a + S1x8x100000.size a ≤ S2x8x100000.size a := by
  have := s.isLt; intro a; fin_cases a <;> simp <;> omega
theorem inb_rows (b : Fin 16) : ∀ a, (![8 * b.val, 0] : Fin 2 → Nat) a + S8x100000.size a ≤ S128x100000.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega

/-- Slot `s` of a two-slot buffer, as a matrix of eight rows. -/
def slot (M : Memref sig .tc .vmem S2x8x100000 .f32) (s : Fin 2) : Memref sig .tc .vmem S8x100000 .f32 :=
  (M.slice (Rect.unit (s := S2x8x100000) ![s.val, 0, 0] S1x8x100000.size (inb_slot s)) (fun _ => rfl)).squeeze S8x100000 squeezes_S1x8x100000_S8x100000
/-- Rows `8 b … 8 b + 7` of an array of 128 rows. -/
def rows (H : Memref sig .tc .hbm S128x100000 .f32) (b : Fin 16) : Memref sig .tc .hbm S8x100000 .f32 :=
  H.slice (Rect.unit (s := S128x100000) ![8 * b.val, 0] S8x100000.size (inb_rows b)) (fun _ => rfl)
/-- Cell `s` of a pair of semaphores. -/
def cell (A : DmaSems sig S2) (s : Fin 2) : DmaSems sig S_ :=
  (A.slice (Rect.unit (s := S2) ![s.val] S1.size (inb_cell s))).squeeze S_ squeezes_S1_S_
abbrev cellAt (A : DmaSems sig S2) (s : Fin 2) : SemLoc sig := SemLoc.dma (cell A s).sem

theorem cellAt_x : cellAt cc0_scratch4 0 = SemLoc.dma 0 ∧ cellAt cc0_scratch4 1 = SemLoc.dma 1 := by decide
theorem cellAt_n : cellAt cc0_scratch5 0 = SemLoc.dma 2 ∧ cellAt cc0_scratch5 1 = SemLoc.dma 3 := by decide
theorem cellAt_r : cellAt cc0_scratch6 0 = SemLoc.dma 4 ∧ cellAt cc0_scratch6 1 = SemLoc.dma 5 := by decide
theorem cellAt_l : cellAt cc0_scratch7 0 = SemLoc.dma 6 ∧ cellAt cc0_scratch7 1 = SemLoc.dma 7 := by decide

/-! ### Two slots make up their buffer, sixteen blocks of rows their array -/

section Sets
variable (M : Memref sig .tc .vmem S2x8x100000 .f32) (H : Memref sig .tc .hbm S128x100000 .f32)

abbrev slotBox (s : Fin 2) : Finset S2x8x100000.Idx := (Rect.unit (s := S2x8x100000) ![s.val, 0, 0] S1x8x100000.size (inb_slot s)).set
abbrev rowsBox (b : Fin 16) : Finset S128x100000.Idx := (Rect.unit (s := S128x100000) ![8 * b.val, 0] S8x100000.size (inb_rows b)).set

theorem slot_set (s : Fin 2) : (slot M s).view.set = (slotBox s).map M.view.emb := by
  simp only [slot, Memref.view_squeeze, View.set_reshape]; exact View.set_slice _ _
theorem rows_set (b : Fin 16) : (rows H b).view.set = (rowsBox b).map H.view.emb := View.set_slice _ _

theorem slot_disjoint (s s' : Fin 2) (h : s ≠ s') : Disjoint ((slot M s).view.set) ((slot M s').view.set) := by
  rw [slot_set, slot_set]
  exact (Finset.disjoint_map _).mpr
    (Ring.lead_disjoint (s := S2x8x100000) (0 : Fin 3) 1 (fun s : Fin 2 => (![s.val, 0, 0] : Fin 3 → Nat)) S1x8x100000.size inb_slot (fun s => by simp) rfl s s' h)
theorem rows_disjoint (b b' : Fin 16) (h : b ≠ b') : Disjoint ((rows H b).view.set) ((rows H b').view.set) := by
  rw [rows_set, rows_set]
  exact (Finset.disjoint_map _).mpr
    (Ring.lead_disjoint (s := S128x100000) (0 : Fin 2) 8 (fun b : Fin 16 => (![8 * b.val, 0] : Fin 2 → Nat)) S8x100000.size inb_rows (fun b => by simp) rfl b b' h)

theorem map_biUnion {A B T : Type} [DecidableEq A] [DecidableEq B] (S : Finset T) (K : T → Finset A) (e : A ↪ B) :
    (S.biUnion fun t => (K t).map e) = (S.biUnion K).map e := by
  ext x; simp only [Finset.mem_biUnion, Finset.mem_map]; constructor
  · rintro ⟨t, ht, a, ha, rfl⟩; exact ⟨a, ⟨t, ht, ha⟩, rfl⟩
  · rintro ⟨a, ⟨t, ht, ha⟩, rfl⟩; exact ⟨t, ht, a, ha, rfl⟩

theorem slot_cover (hM : M.IsWhole) : (Finset.univ.biUnion (β := M.view.ty.Idx) fun s => (slot M s).view.set) = Finset.univ := by
  simp only [slot_set]
  rw [map_biUnion]
  have e : Finset.univ.biUnion slotBox = Finset.univ :=
    Ring.lead_cover (s := S2x8x100000) (0 : Fin 3) 1 (fun s : Fin 2 => (![s.val, 0, 0] : Fin 3 → Nat)) S1x8x100000.size inb_slot (fun s => by simp)
      (fun s a ha => by fin_cases a <;> first | exact absurd rfl ha | rfl) rfl (fun a ha => by fin_cases a <;> first | exact absurd rfl ha | rfl) rfl
  rw [e]; exact hM.set_eq_univ
theorem rows_cover (hH : H.IsWhole) : (Finset.univ.biUnion (β := H.view.ty.Idx) fun b => (rows H b).view.set) = Finset.univ := by
  simp only [rows_set]
  rw [map_biUnion]
  have e : Finset.univ.biUnion rowsBox = Finset.univ :=
    Ring.lead_cover (s := S128x100000) (0 : Fin 2) 8 (fun b : Fin 16 => (![8 * b.val, 0] : Fin 2 → Nat)) S8x100000.size inb_rows (fun b => by simp)
      (fun b a ha => by fin_cases a <;> first | exact absurd rfl ha | rfl) rfl (fun a ha => by fin_cases a <;> first | exact absurd rfl ha | rfl) rfl
  rw [e]; exact hH.set_eq_univ
end Sets

/-! ## What is held -/

section Held
variable (c : Dev nD)

/-- A two-slot buffer's contents type, and an array's of 128 rows. -/
abbrev SlotBuf (M : Memref sig .tc .vmem S2x8x100000 .f32) : Type := Buf (Elt F) (M.view.loc (c : Thread nD τ))
abbrev RowsBuf (H : Memref sig .tc .hbm S128x100000 .f32) : Type := Buf (Elt F) (H.view.loc (c : Thread nD τ))

/-- Slot `s` held at `f`. -/
abbrev slotP (M : Memref sig .tc .vmem S2x8x100000 .f32) (s : Fin 2) (f : Buf (Elt F) ((slot M s).view.loc (c : Thread nD τ))) : sProp 𝕄 :=
  (slot M s).view.loc (c : Thread nD τ) ↦[(slot M s).view.set]{fullShare} f
/-- Cell `s` in hand at zero. -/
abbrev cellP (A : DmaSems sig S2) (s : Fin 2) : sProp 𝕄 := semVal ((c : Thread nD τ), cellAt A s) 0
/-- The half share of an input that slot `s` lends from. -/
abbrev half (s : Fin 2) : PosShare TreeShare := if s.val = 0 then fullShare.left else fullShare.right
/-- Block `b` of slot `s`'s half of the input, the rest of that half, the half as a whole. -/
abbrev lentP (H : Memref sig .tc .hbm S128x100000 .f32) (W : Buf (Elt F) (H.view.loc (c : Thread nD τ))) (s : Fin 2) (b : Fin 16) : sProp 𝕄 :=
  (rows H b).view.loc (c : Thread nD τ) ↦[(rows H b).view.set]{half s} W
def restP (H : Memref sig .tc .hbm S128x100000 .f32) (W : Buf (Elt F) (H.view.loc (c : Thread nD τ))) (s : Fin 2) (b : Fin 16) : sProp 𝕄 :=
  H.view.loc (c : Thread nD τ) ↦[Finset.univ \ (rows H b).view.set]{half s} W
abbrev wholeP (H : Memref sig .tc .hbm S128x100000 .f32) (W : Buf (Elt F) (H.view.loc (c : Thread nD τ))) (s : Fin 2) : sProp 𝕄 :=
  H.view.loc (c : Thread nD τ) ↦[Finset.univ]{half s} W

/-- Block `u` of a result held at `f`. -/
abbrev pieceP (O : Memref sig .tc .hbm S128x100000 .f32) (u : Fin 16) (f : Buf (Elt F) ((rows O u).view.loc (c : Thread nD τ))) : sProp 𝕄 :=
  (rows O u).view.loc (c : Thread nD τ) ↦[(rows O u).view.set]{fullShare} f

/-! ### A reading ring -/

/-- Slot `s` after block `b` of the input has landed in it. -/
abbrev landed (M : Memref sig .tc .vmem S2x8x100000 .f32) (H : Memref sig .tc .hbm S128x100000 .f32) (W : Buf (Elt F) (H.view.loc (c : Thread nD τ)))
    (s : Fin 2) (b : Fin 16) (f : Buf (Elt F) ((slot M s).view.loc (c : Thread nD τ))) : Buf (Elt F) ((slot M s).view.loc (c : Thread nD τ)) :=
  (slot M s).view.writes (Elt F) f [⟨Rect.whole S8x100000, ReadAs.same.apply ((rows H b).view.read (Elt F) W)⟩]
/-- A copy of block `b` on its way into slot `s`. -/
abbrev flightP (M : Memref sig .tc .vmem S2x8x100000 .f32) (H : Memref sig .tc .hbm S128x100000 .f32) (A : DmaSems sig S2) (W : Buf (Elt F) (H.view.loc (c : Thread nD τ)))
    (s : Fin 2) (b : Fin 16) (f : Buf (Elt F) ((slot M s).view.loc (c : Thread nD τ))) : sProp 𝕄 :=
  Transfers.Flight countersEmb (c : Thread nD τ) (cellAt A s) default ((slot M s).view.amount (cellAt A s))
    iprop(slotP c M s (landed c M H W s b f) ∗ lentP c H W s b)
/-- A slot at rest carries its half of the input whole, a copy on its way the part it did not borrow. -/
abbrev slotW (M : Memref sig .tc .vmem S2x8x100000 .f32) (H : Memref sig .tc .hbm S128x100000 .f32) (W : Buf (Elt F) (H.view.loc (c : Thread nD τ)))
    (s : Fin 2) (f : Buf (Elt F) ((slot M s).view.loc (c : Thread nD τ))) : sProp 𝕄 := iprop(slotP c M s f ∗ wholeP c H W s)
abbrev flightW (M : Memref sig .tc .vmem S2x8x100000 .f32) (H : Memref sig .tc .hbm S128x100000 .f32) (A : DmaSems sig S2) (W : Buf (Elt F) (H.view.loc (c : Thread nD τ)))
    (s : Fin 2) (b : Fin 16) (f : Buf (Elt F) ((slot M s).view.loc (c : Thread nD τ))) : sProp 𝕄 := iprop(flightP c M H A W s b f ∗ restP c H W s b)
abbrev noHome (_ : Fin 16) : sProp 𝕄 := iprop(emp)
/-- The reading ring before point `k`. -/
def readRing (M : Memref sig .tc .vmem S2x8x100000 .f32) (H : Memref sig .tc .hbm S128x100000 .f32) (A : DmaSems sig S2) (W : Buf (Elt F) (H.view.loc (c : Thread nD τ)))
    (k : ℕ) : sProp 𝕄 :=
  if k = 0 then Ring.At₀ (cellP c A) (slotW c M H W) noHome
  else Ring.AtK 1 (cellP c A) (slotW c M H W) noHome (flightW c M H A W) (fun s b f => landed c M H W s b f) k

/-! ### A writing ring, whose blocks end at `G` -/

abbrev wfree (M : Memref sig .tc .vmem S2x8x100000 .f32) (A : DmaSems sig S2) (g : Fin 2) : sProp 𝕄 := iprop(cellP c A g ∗ ∃ e, slotP (F := F) c M g e)
/-- A copy of slot `g` on its way to block `u` of the result, which it leaves at `G`. -/
abbrev winfl (M : Memref sig .tc .vmem S2x8x100000 .f32) (O : Memref sig .tc .hbm S128x100000 .f32) (A : DmaSems sig S2) (G : Buf (Elt F) (O.view.loc (c : Thread nD τ)))
    (g : Fin 2) (u : Fin 16) : sProp 𝕄 :=
  iprop(∃ e, Transfers.Flight countersEmb (c : Thread nD τ) (cellAt A g) default ((rows O u).view.amount (cellAt A g)) iprop(pieceP c O u G ∗ slotP c M g e))
abbrev ahead (O : Memref sig .tc .hbm S128x100000 .f32) (u : Fin 16) : sProp 𝕄 := iprop(∃ f, pieceP (F := F) c O u f)
abbrev behind (O : Memref sig .tc .hbm S128x100000 .f32) (G : Buf (Elt F) (O.view.loc (c : Thread nD τ))) (u : Fin 16) : sProp 𝕄 := pieceP c O u G
/-- The writing ring before point `k`. -/
def writeRing (M : Memref sig .tc .vmem S2x8x100000 .f32) (O : Memref sig .tc .hbm S128x100000 .f32) (A : DmaSems sig S2) (G : Buf (Elt F) (O.view.loc (c : Thread nD τ)))
    (k : ℕ) : sProp 𝕄 :=
  Ring.AtBΦ 2 (wfree c M A) (winfl c M O A G) (ahead c O) (behind c O G) k

end Held

/-! ## Into the rings and out of them -/

section InOut
variable (c : Dev nD) (M : Memref sig .tc .vmem S2x8x100000 .f32) (H : Memref sig .tc .hbm S128x100000 .f32) (A : DmaSems sig S2)
  (W : Buf (Elt F) (H.view.loc (c : Thread nD τ)))

/-- A half of the input is block `b` of it and the rest. -/
theorem lent_split (s : Fin 2) (b : Fin 16) : wholeP (F := F) c H W s ⊣⊢ iprop(lentP c H W s b ∗ restP c H W s b) := by
  unfold restP; exact pointsTo_split_subset (Finset.subset_univ _)
/-- The input is its two halves. -/
theorem halves : (H.view.loc (c : Thread nD τ) ↦{fullShare} W : sProp 𝕄) ⊣⊢ iprop(wholeP c H W 0 ∗ wholeP c H W 1) :=
  pointsTo_share (PosShare.mem_left_op_right fullShare)

theorem slots_in (hM : M.IsWhole) : iprop(∃ f, M.view.loc (c : Thread nD τ) ↦{fullShare} f) ⊢ (iprop((∃ f, slotP (F := F) c M 0 f) ∗ ∃ f, slotP (F := F) c M 1 f) : sProp 𝕄) :=
  Ring.slots2_split (U := Pipeline.UD sig nD τ) (ℓ := M.view.loc (c : Thread nD τ)) (q := fullShare) (fun s => (slot M s).view.set) (slot_disjoint M) (slot_cover M hM)
    (slotP c M 0) (slotP c M 1) (fun _ => rfl) (fun _ => rfl)
theorem slots_out (hM : M.IsWhole) : (iprop((∃ f, slotP (F := F) c M 0 f) ∗ ∃ f, slotP (F := F) c M 1 f) : sProp 𝕄) ⊢ iprop(∃ f, M.view.loc (c : Thread nD τ) ↦{fullShare} f) :=
  Ring.slots2_join (U := Pipeline.UD sig nD τ) (ℓ := M.view.loc (c : Thread nD τ)) (q := fullShare) (fun s => (slot M s).view.set) (slot_disjoint M) (slot_cover M hM)
    (slotP c M 0) (slotP c M 1) (fun _ => rfl) (fun _ => rfl)

/-- A reading ring before its first point: the buffer, the two cells at zero, the input. -/
theorem readRing_in (hM : M.IsWhole) :
    iprop((∃ f, M.view.loc (c : Thread nD τ) ↦{fullShare} f) ∗ (cellP c A 0 ∗ cellP c A 1) ∗ H.view.loc (c : Thread nD τ) ↦{fullShare} W)
      ⊢ readRing c M H A W 0 := by
  unfold readRing; rw [if_pos rfl]; unfold Ring.At₀
  rw [Ring.bigSep_fin2]
  simp only [Ring.free]
  iintro ⟨HS, ⟨H0, H1⟩, HW⟩
  iapply Ring.with_homes₀
  ihave HS' := (slots_in (F := F) c M hM) $$ HS
  icases HS' with ⟨⟨%d0, HS0⟩, ⟨%d1, HS1⟩⟩
  ihave HW' := (halves (F := F) c H W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- After its last point it gives them back. -/
theorem readRing_out (hM : M.IsWhole) :
    readRing c M H A W 16
      ⊢ iprop((∃ f, M.view.loc (c : Thread nD τ) ↦{fullShare} f) ∗ (cellP c A 0 ∗ cellP c A 1) ∗ H.view.loc (c : Thread nD τ) ↦{fullShare} W) := by
  unfold readRing; rw [if_neg (by decide)]
  iintro H
  ihave H' := (Ring.free2_of_AtK_last _ _ _ _ _) $$ H
  simp only [Ring.free]
  icases H' with ⟨-, ⟨H0, ⟨%f0, HS0, HW0⟩⟩, ⟨H1, ⟨%f1, HS1, HW1⟩⟩⟩
  isplitl [HS0 HS1]
  · iapply (slots_out (F := F) c M hM); isplitl [HS0]; · iexists f0; iexact HS0
    iexists f1; iexact HS1
  isplitl [H0 H1]
  · isplitl [H0]; · iexact H0
    iexact H1
  · iapply (halves (F := F) c H W).2; isplitl [HW0]; · iexact HW0
    iexact HW1

variable (O : Memref sig .tc .hbm S128x100000 .f32) (G : Buf (Elt F) (O.view.loc (c : Thread nD τ)))

/-- An array is its sixteen blocks of rows. -/
theorem blocks (hO : O.IsWhole) (f : Buf (Elt F) (O.view.loc (c : Thread nD τ))) :
    (O.view.loc (c : Thread nD τ) ↦{fullShare} f : sProp 𝕄) = bigSep Finset.univ fun u => pieceP c O u f :=
  Ring.pointsTo_blocks (ℓ := O.view.loc (c : Thread nD τ)) (fun u => (rows O u).view.set) (rows_disjoint O) (rows_cover O hO) f

theorem ahead_all (f : Buf (Elt F) (O.view.loc (c : Thread nD τ))) :
    (bigSep Finset.univ fun u => pieceP c O u f : sProp 𝕄) ⊢ bigSep Finset.univ (ahead c O) := by
  have h (u : Fin 16) : (pieceP c O u f : sProp 𝕄) ⊢ iprop(∃ f, pieceP c O u f) := by iintro H; iexists f; iexact H
  exact BI.bigSep_mono fun u _ => h u

/-- A writing ring before its first point: the buffer, the two cells at zero, the result at anything. -/
theorem writeRing_in (hM : M.IsWhole) (hO : O.IsWhole) (f : Buf (Elt F) (O.view.loc (c : Thread nD τ))) :
    iprop((∃ f, M.view.loc (c : Thread nD τ) ↦{fullShare} f) ∗ (cellP c A 0 ∗ cellP c A 1) ∗ O.view.loc (c : Thread nD τ) ↦{fullShare} f)
      ⊢ writeRing c M O A G 0 := by
  unfold writeRing; rw [Ring.AtBΦ_lt _ _ _ _ _ 0 (by decide), Ring.AtB_zero]; unfold Ring.AtB₀
  rw [Ring.bigSep_fin2, blocks c O hO f]
  iintro ⟨HS, ⟨H0, H1⟩, HW⟩
  ihave HS' := (slots_in (F := F) c M hM) $$ HS
  icases HS' with ⟨⟨%d0, HS0⟩, ⟨%d1, HS1⟩⟩
  isplitl [HW]
  · iapply (ahead_all (F := F) c O f); iexact HW
  isplitl [H0 HS0]
  · isplitl [H0]; · iexact H0
    iexists d0; iexact HS0
  · isplitl [H1]; · iexact H1
    iexists d1; iexact HS1
/-- After its last point it gives them back, the result at `G`. -/
theorem writeRing_out (hM : M.IsWhole) (hO : O.IsWhole) :
    writeRing c M O A G 16
      ⊢ iprop((∃ f, M.view.loc (c : Thread nD τ) ↦{fullShare} f) ∗ (cellP c A 0 ∗ cellP c A 1) ∗ O.view.loc (c : Thread nD τ) ↦{fullShare} G) := by
  unfold writeRing; rw [Ring.AtBΦ_ge _ _ _ _ _ 16 (by decide)]; unfold Ring.AtBEnd
  rw [Ring.bigSep_fin2, blocks c O hO G]
  iintro ⟨HW, ⟨H0, ⟨%d0, HS0⟩⟩, ⟨H1, ⟨%d1, HS1⟩⟩⟩
  isplitl [HS0 HS1]
  · iapply (slots_out (F := F) c M hM); isplitl [HS0]; · iexists d0; iexact HS0
    iexists d1; iexact HS1
  isplitl [H0 H1]
  · isplitl [H0]; · iexact H0
    iexact H1
  iexact HW

end InOut

end Cert.KernelIdeal.Hand

end
end
-- ==== Proof.Names.lean ====
/-
  The kernel's own spelling of slots, blocks and cells is that of the rings: at point `t` it works on slot `t % 2`,
  fetches block `t + 1` into the other slot, and sends block `t` out of slot `t % 2`. Also the points at which each of its
  four conditions holds, and the values it leaves in the two results.
-/
module

public import proofs.«01_k».proof.Proof.Rings

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## When the conditions hold -/

/-- The first point. -/
abbrev isFirst (i : grid0.Coords) : Prop := (Scalar.cmpi .ne (Scalar.extui (Scalar.cmpi .eq (BitVec.ofNat 32 (i 0).val) 0#32)) 0#32) = 1#1
/-- A block is still to be fetched. -/
abbrev hasNext (i : grid0.Coords) : Prop := k0_cond2 i = 1#1
/-- A slot of a result was sent out two points ago. -/
abbrev hasPast (i : grid0.Coords) : Prop := k0_cond3 i = 1#1
/-- The last point. -/
abbrev isLast (i : grid0.Coords) : Prop := k0_cond4 i = 1#1

theorem isFirst_iff : ∀ t : Fin grid0.N, isFirst (grid0.coords t) ↔ t.val = 0 := by decide +kernel
theorem hasNext_iff : ∀ t : Fin grid0.N, hasNext (grid0.coords t) ↔ t.val < 15 := by decide +kernel
theorem hasPast_iff : ∀ t : Fin grid0.N, hasPast (grid0.coords t) ↔ 2 ≤ t.val := by decide +kernel
theorem isLast_iff : ∀ t : Fin grid0.N, isLast (grid0.coords t) ↔ t.val = 15 := by decide +kernel

/-! ## The offsets -/

section Offsets
omit [FloatOps F]

theorem slot_of (M : Memref sig .tc .vmem S2x8x100000 .f32) {off : Fin 3 → Nat} {s : Fin 2} (h : off = ![s.val, 0, 0])
    (p : ∀ a, off a + S1x8x100000.size a ≤ S2x8x100000.size a) :
    (M.slice (Rect.unit (s := S2x8x100000) off S1x8x100000.size p) (fun _ => rfl)).squeeze S8x100000 squeezes_S1x8x100000_S8x100000 = slot M s :=
  congrArg (fun N : Memref sig .tc .vmem S1x8x100000 .f32 => N.squeeze S8x100000 squeezes_S1x8x100000_S8x100000)
    (Memref.slice_unit_congr _ h _ _ (fun _ => rfl) (fun _ => rfl))
theorem rows_of (H : Memref sig .tc .hbm S128x100000 .f32) {off : Fin 2 → Nat} {b : Fin 16} (h : off = ![8 * b.val, 0])
    (p : ∀ a, off a + S8x100000.size a ≤ S128x100000.size a) :
    H.slice (Rect.unit (s := S128x100000) off S8x100000.size p) (fun _ => rfl) = rows H b :=
  Memref.slice_unit_congr _ h _ _ (fun _ => rfl) (fun _ => rfl)
theorem cell_of (A : DmaSems sig S2) {off : Fin 1 → Nat} {s : Fin 2} (h : off = ![s.val]) (p : ∀ a, off a + S1.size a ≤ S2.size a) :
    (A.slice (Rect.unit (s := S2) off S1.size p)).squeeze S_ squeezes_S1_S_ = cell A s :=
  congrArg (fun B : DmaSems sig S1 => B.squeeze S_ squeezes_S1_S_) (SemArray.slice_unit_congr _ h _ _)

set_option synthInstance.maxSize 4096 in
theorem off1 : ∀ t : Fin grid0.N, k0_off1 (grid0.coords t) = ![(Ring.sl 2 (t.val + 1)).val] := by decide +kernel
set_option synthInstance.maxSize 4096 in
theorem off2 : ∀ t : Fin grid0.N, k0_off2 (grid0.coords t) = ![(Ring.sl 2 (t.val + 1)).val, 0, 0] := by decide +kernel
set_option synthInstance.maxSize 4096 in
theorem off3 : ∀ t : Fin grid0.N, hasNext (grid0.coords t) → k0_off3 (grid0.coords t) = ![8 * (Ring.bk 16 (t.val + 1)).val, 0] := by decide +kernel
set_option synthInstance.maxSize 4096 in
theorem off4 : ∀ t : Fin grid0.N, k0_off4 (grid0.coords t) = ![(Ring.sl 2 t.val).val] := by decide +kernel
set_option synthInstance.maxSize 4096 in
theorem off5 : ∀ t : Fin grid0.N, k0_off5 (grid0.coords t) = ![(Ring.sl 2 t.val).val, 0, 0] := by decide +kernel
set_option synthInstance.maxSize 4096 in
theorem off6 : ∀ t : Fin grid0.N, k0_off6 (grid0.coords t) = ![8 * (Ring.bk 16 t.val).val, 0] := by decide +kernel
set_option synthInstance.maxSize 4096 in
theorem off7 : ∀ t : Fin grid0.N, k0_off7 (grid0.coords t) = ![(Ring.sl 2 t.val).val] := by decide +kernel
set_option synthInstance.maxSize 4096 in
theorem off9 : ∀ t : Fin grid0.N, k0_off9 (grid0.coords t) = ![(Ring.sl 2 t.val).val, 0, 0] := by decide +kernel
set_option synthInstance.maxSize 4096 in
theorem off10 : ∀ t : Fin grid0.N, k0_off10 (grid0.coords t) = ![(Ring.sl 2 t.val).val, 0, 0] := by decide +kernel
set_option synthInstance.maxSize 4096 in
theorem off11 : ∀ t : Fin grid0.N, k0_off11 (grid0.coords t) = ![(Ring.sl 2 (t.val + 1)).val] := by decide +kernel
set_option synthInstance.maxSize 4096 in
theorem off13 : ∀ t : Fin grid0.N, k0_off13 (grid0.coords t) = ![(Ring.sl 2 (t.val + 1)).val, 0, 0] := by decide +kernel
set_option synthInstance.maxSize 4096 in
theorem off14 : ∀ t : Fin grid0.N, k0_off14 (grid0.coords t) = ![(Ring.sl 2 t.val).val] := by decide +kernel
set_option synthInstance.maxSize 4096 in
theorem off16 : ∀ t : Fin grid0.N, k0_off16 (grid0.coords t) = ![(Ring.sl 2 t.val).val, 0, 0] := by decide +kernel

/-! ### The kernel's operands by their names -/

@[sl_canon] theorem cell_off1 (A : DmaSems sig S2) (t : Fin grid0.N) (h : hasNext (grid0.coords t)) :
    (A.slice (Rect.unit (s := S2) (k0_off1 (grid0.coords t)) S1.size (k0_off1_inb (grid0.coords t) h))).squeeze S_ squeezes_S1_S_ = cell A (Ring.sl 2 (t.val + 1)) :=
  cell_of A (off1 t) _
@[sl_canon] theorem slot_off2 (M : Memref sig .tc .vmem S2x8x100000 .f32) (t : Fin grid0.N) (h : hasNext (grid0.coords t)) :
    (M.slice (Rect.unit (s := S2x8x100000) (k0_off2 (grid0.coords t)) S1x8x100000.size (k0_off2_inb (grid0.coords t) h)) (fun _ => rfl)).squeeze S8x100000 squeezes_S1x8x100000_S8x100000 = slot M (Ring.sl 2 (t.val + 1)) :=
  slot_of M (off2 t) _
@[sl_canon] theorem rows_off3 (H : Memref sig .tc .hbm S128x100000 .f32) (t : Fin grid0.N) (h : hasNext (grid0.coords t)) :
    H.slice (Rect.unit (s := S128x100000) (k0_off3 (grid0.coords t)) S8x100000.size (k0_off3_inb (grid0.coords t) h)) (fun _ => rfl) = rows H (Ring.bk 16 (t.val + 1)) :=
  rows_of H (off3 t h) _
@[sl_canon] theorem cell_off4 (A : DmaSems sig S2) (t : Fin grid0.N) :
    (A.slice (Rect.unit (s := S2) (k0_off4 (grid0.coords t)) S1.size (k0_off4_inb (grid0.coords t)))).squeeze S_ squeezes_S1_S_ = cell A (Ring.sl 2 t.val) :=
  cell_of A (off4 t) _
@[sl_canon] theorem slot_off5 (M : Memref sig .tc .vmem S2x8x100000 .f32) (t : Fin grid0.N) :
    (M.slice (Rect.unit (s := S2x8x100000) (k0_off5 (grid0.coords t)) S1x8x100000.size (k0_off5_inb (grid0.coords t))) (fun _ => rfl)).squeeze S8x100000 squeezes_S1x8x100000_S8x100000 = slot M (Ring.sl 2 t.val) :=
  slot_of M (off5 t) _
@[sl_canon] theorem rows_off6 (H : Memref sig .tc .hbm S128x100000 .f32) (t : Fin grid0.N) :
    H.slice (Rect.unit (s := S128x100000) (k0_off6 (grid0.coords t)) S8x100000.size (k0_off6_inb (grid0.coords t))) (fun _ => rfl) = rows H (Ring.bk 16 t.val) :=
  rows_of H (off6 t) _
@[sl_canon] theorem cell_off7 (A : DmaSems sig S2) (t : Fin grid0.N) (h : hasPast (grid0.coords t)) :
    (A.slice (Rect.unit (s := S2) (k0_off7 (grid0.coords t)) S1.size (k0_off7_inb (grid0.coords t) h))).squeeze S_ squeezes_S1_S_ = cell A (Ring.sl 2 t.val) :=
  cell_of A (off7 t) _
@[sl_canon] theorem slot_off9 (M : Memref sig .tc .vmem S2x8x100000 .f32) (t : Fin grid0.N) (h : hasPast (grid0.coords t)) :
    (M.slice (Rect.unit (s := S2x8x100000) (k0_off9 (grid0.coords t)) S1x8x100000.size (k0_off9_inb (grid0.coords t) h)) (fun _ => rfl)).squeeze S8x100000 squeezes_S1x8x100000_S8x100000 = slot M (Ring.sl 2 t.val) :=
  slot_of M (off9 t) _
@[sl_canon] theorem cell_off11 (A : DmaSems sig S2) (t : Fin grid0.N) (h : isLast (grid0.coords t)) :
    (A.slice (Rect.unit (s := S2) (k0_off11 (grid0.coords t)) S1.size (k0_off11_inb (grid0.coords t) h))).squeeze S_ squeezes_S1_S_ = cell A (Ring.sl 2 (t.val + 1)) :=
  cell_of A (off11 t) _
@[sl_canon] theorem slot_off13 (M : Memref sig .tc .vmem S2x8x100000 .f32) (t : Fin grid0.N) (h : isLast (grid0.coords t)) :
    (M.slice (Rect.unit (s := S2x8x100000) (k0_off13 (grid0.coords t)) S1x8x100000.size (k0_off13_inb (grid0.coords t) h)) (fun _ => rfl)).squeeze S8x100000 squeezes_S1x8x100000_S8x100000 = slot M (Ring.sl 2 (t.val + 1)) :=
  slot_of M (off13 t) _
@[sl_canon] theorem cell_off14 (A : DmaSems sig S2) (t : Fin grid0.N) (h : isLast (grid0.coords t)) :
    (A.slice (Rect.unit (s := S2) (k0_off14 (grid0.coords t)) S1.size (k0_off14_inb (grid0.coords t) h))).squeeze S_ squeezes_S1_S_ = cell A (Ring.sl 2 t.val) :=
  cell_of A (off14 t) _
@[sl_canon] theorem slot_off16 (M : Memref sig .tc .vmem S2x8x100000 .f32) (t : Fin grid0.N) (h : isLast (grid0.coords t)) :
    (M.slice (Rect.unit (s := S2x8x100000) (k0_off16 (grid0.coords t)) S1x8x100000.size (k0_off16_inb (grid0.coords t) h)) (fun _ => rfl)).squeeze S8x100000 squeezes_S1x8x100000_S8x100000 = slot M (Ring.sl 2 t.val) :=
  slot_of M (off16 t) _

/-! The same operands with the sizes of their boxes written out. -/

@[sl_canon] theorem cell_off4' (A : DmaSems sig S2) (t : Fin grid0.N) :
    (A.slice (Rect.unit (s := S2) (k0_off4 (grid0.coords t)) ![1] (k0_off4_inb (grid0.coords t)))).squeeze S_ squeezes_S1_S_ = cell A (Ring.sl 2 t.val) :=
  cell_of A (off4 t) _
@[sl_canon] theorem slot_off5' (M : Memref sig .tc .vmem S2x8x100000 .f32) (t : Fin grid0.N) :
    (M.slice (Rect.unit (s := S2x8x100000) (k0_off5 (grid0.coords t)) ![1, 8, 100000] (k0_off5_inb (grid0.coords t))) (fun _ => rfl)).squeeze S8x100000 squeezes_S1x8x100000_S8x100000 = slot M (Ring.sl 2 t.val) :=
  slot_of M (off5 t) _
@[sl_canon] theorem rows_off6' (H : Memref sig .tc .hbm S128x100000 .f32) (t : Fin grid0.N) :
    H.slice (Rect.unit (s := S128x100000) (k0_off6 (grid0.coords t)) ![8, 100000] (k0_off6_inb (grid0.coords t))) (fun _ => rfl) = rows H (Ring.bk 16 t.val) :=
  rows_of H (off6 t) _
@[sl_canon] theorem cell_off11' (A : DmaSems sig S2) (t : Fin grid0.N) (h : isLast (grid0.coords t)) :
    (A.slice (Rect.unit (s := S2) (k0_off11 (grid0.coords t)) ![1] (k0_off11_inb (grid0.coords t) h))).squeeze S_ squeezes_S1_S_ = cell A (Ring.sl 2 (t.val + 1)) :=
  cell_of A (off11 t) _
@[sl_canon] theorem slot_off13' (M : Memref sig .tc .vmem S2x8x100000 .f32) (t : Fin grid0.N) (h : isLast (grid0.coords t)) :
    (M.slice (Rect.unit (s := S2x8x100000) (k0_off13 (grid0.coords t)) ![1, 8, 100000] (k0_off13_inb (grid0.coords t) h)) (fun _ => rfl)).squeeze S8x100000 squeezes_S1x8x100000_S8x100000 = slot M (Ring.sl 2 (t.val + 1)) :=
  slot_of M (off13 t) _
@[sl_canon] theorem cell_off14' (A : DmaSems sig S2) (t : Fin grid0.N) (h : isLast (grid0.coords t)) :
    (A.slice (Rect.unit (s := S2) (k0_off14 (grid0.coords t)) ![1] (k0_off14_inb (grid0.coords t) h))).squeeze S_ squeezes_S1_S_ = cell A (Ring.sl 2 t.val) :=
  cell_of A (off14 t) _
@[sl_canon] theorem slot_off16' (M : Memref sig .tc .vmem S2x8x100000 .f32) (t : Fin grid0.N) (h : isLast (grid0.coords t)) :
    (M.slice (Rect.unit (s := S2x8x100000) (k0_off16 (grid0.coords t)) ![1, 8, 100000] (k0_off16_inb (grid0.coords t) h)) (fun _ => rfl)).squeeze S8x100000 squeezes_S1x8x100000_S8x100000 = slot M (Ring.sl 2 t.val) :=
  slot_of M (off16 t) _

/-! At the first point the first fetch is spelled with literal zeros. -/

theorem zero_slot : ∀ t : Fin grid0.N, isFirst (grid0.coords t) → (![0, 0, 0] : Fin 3 → Nat) = ![(Ring.sl 2 t.val).val, 0, 0] := by decide +kernel
theorem zero_cell : ∀ t : Fin grid0.N, isFirst (grid0.coords t) → (![0] : Fin 1 → Nat) = ![(Ring.sl 2 t.val).val] := by decide +kernel
theorem zero_rows : ∀ t : Fin grid0.N, isFirst (grid0.coords t) → (![0, 0] : Fin 2 → Nat) = ![8 * (Ring.bk 16 t.val).val, 0] := by decide +kernel
theorem slot_first (M : Memref sig .tc .vmem S2x8x100000 .f32) (t : Fin grid0.N) (h : isFirst (grid0.coords t)) :
    (M.slice (Rect.unit (s := S2x8x100000) ![0, 0, 0] S1x8x100000.size inb_S2x8x100000_S1x8x100000_0_0_0) (fun _ => rfl)).squeeze S8x100000 squeezes_S1x8x100000_S8x100000 = slot M (Ring.sl 2 t.val) :=
  slot_of M (zero_slot t h) _
theorem cell_first (A : DmaSems sig S2) (t : Fin grid0.N) (h : isFirst (grid0.coords t)) :
    (A.slice (Rect.unit (s := S2) ![0] S1.size inb_S2_S1_0)).squeeze S_ squeezes_S1_S_ = cell A (Ring.sl 2 t.val) :=
  cell_of A (zero_cell t h) _
theorem rows_first (H : Memref sig .tc .hbm S128x100000 .f32) (t : Fin grid0.N) (h : isFirst (grid0.coords t)) :
    H.slice (Rect.unit (s := S128x100000) ![0, 0] S8x100000.size inb_S128x100000_S8x100000_0_0) (fun _ => rfl) = rows H (Ring.bk 16 t.val) :=
  rows_of H (zero_rows t h) _

end Offsets

/-- The box a point loads and stores through, by its slot. -/
instance (priority := high) (t : Fin grid0.N) : ClosedOff (k0_off10 (grid0.coords t)) := ⟨![(Ring.sl 2 t.val).val, 0, 0], off10 t⟩

end Cert.KernelIdeal.Hand

end
end
-- ==== Proof.Blocks.lean ====
/-
  What a point computes from the two blocks it has fetched, as matrices of eight rows, and that what it loads from its
  slots, stores and sends out are these matrices.
-/
module

public import proofs.«01_k».proof.Proof.Names
public import Idealize.ShloMosaic.Lib.Exec
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands -/

abbrev xM : Memref sig .tc .hbm S128x100000 .f32 := Memref.whole main_arg0
abbrev nM : Memref sig .tc .hbm S128x100000 .f32 := Memref.whole main_v7
abbrev rM : Memref sig .tc .hbm S128x100000 .f32 := Memref.whole main_v8_0
abbrev lM : Memref sig .tc .hbm S128x100000 .f32 := Memref.whole main_v8_1
abbrev xS : Memref sig .tc .vmem S2x8x100000 .f32 := Memref.whole cc0_scratch0
abbrev nS : Memref sig .tc .vmem S2x8x100000 .f32 := Memref.whole cc0_scratch1
abbrev rS : Memref sig .tc .vmem S2x8x100000 .f32 := Memref.whole cc0_scratch2
abbrev lS : Memref sig .tc .vmem S2x8x100000 .f32 := Memref.whole cc0_scratch3

/-! ## One block -/

theorem casts_up : S8x100000.ShapeCasts S1x8x100000 := rfl
theorem casts_down : S1x8x100000.ShapeCasts S8x100000 := rfl

/-- Block `b` of an array, as a matrix. -/
abbrev block (c : Dev nD) (H : Memref sig .tc .hbm S128x100000 .f32) (W : Buf (Elt F) (H.view.loc (c : Thread nD τ))) (b : Fin 16) : Vec F S8x100000 .f32 :=
  (rows H b).view.read (Elt F) W

/-- A matrix as the one slot it fills. -/
abbrev up (x : Vec F S8x100000 .f32) : Vec F S1x8x100000 .f32 := shapeCast S1x8x100000 x casts_up

/-- The first result's block: a one where logits less their logsumexp plus noise is greatest in its row. -/
def retBlock (x n : Vec F S8x100000 .f32) : Vec F S8x100000 .f32 :=
  shapeCast S8x100000 (k0_pay2 (k0_pay4 (up x)) (k0_pay5 (up x)) (k0_pay6 (up x)) (up n)) casts_down
/-- The second result's block: logits less their logsumexp. -/
def lgBlock (x : Vec F S8x100000 .f32) : Vec F S8x100000 .f32 :=
  shapeCast S8x100000 (k0_pay3 (k0_pay4 (up x)) (k0_pay5 (up x)) (k0_pay6 (up x))) casts_down

/-! ## Loads, stores, copies -/

section Access
variable (M : Memref sig .tc .vmem S2x8x100000 .f32)

/-- A slot is read as its box is, under the two shapes' matching. -/
theorem slot_read {off : Fin 3 → Nat} {s : Fin 2} (h : off = ![s.val, 0, 0]) (p : ∀ a, off a + S1x8x100000.size a ≤ S2x8x100000.size a)
    (f : M.view.ty.Contents (Elt F)) :
    (slot M s).view.read (Elt F) f
      = shapeCast S8x100000 ((M.view.slice (Rect.unit (s := S2x8x100000) off S1x8x100000.size p)).read (Elt F) f) casts_down := by
  subst h; rfl

/-- What a point loads from a slot in which a block has landed is that block. -/
theorem load_landed {off : Fin 3 → Nat} {s : Fin 2} (h : off = ![s.val, 0, 0]) (p : ∀ a, off a + S1x8x100000.size a ≤ S2x8x100000.size a)
    (f : M.view.ty.Contents (Elt F)) (x : Vec F S8x100000 .f32) :
    M.view.readAt (Elt F) (Rect.unit (s := S2x8x100000) off S1x8x100000.size p).toLoadRect ((slot M s).view.writes (Elt F) f [⟨Rect.whole S8x100000, x⟩]) = up x := by
  have e := (slot_read M h p _).symm.trans (View.read_writes_whole (Val := Elt F) (slot M s).view f x)
  refine Eq.trans (Eq.symm ?_) (congrArg up e)
  exact shapeCast_shapeCast _ casts_down casts_up

/-- What a point sends out of a slot is what it stored there. -/
theorem sent {off : Fin 3 → Nat} {s : Fin 2} (h : off = ![s.val, 0, 0]) (p : ∀ a, off a + S1x8x100000.size a ≤ S2x8x100000.size a)
    (e : M.view.ty.Contents (Elt F)) (v : Vec F S1x8x100000 .f32) :
    (slot M s).view.read (Elt F) (View.write (Elt F) (M.view.slice (Rect.unit (s := S2x8x100000) off S1x8x100000.size p)) e v Finset.univ)
      = shapeCast S8x100000 v casts_down := by
  rw [slot_read M h p]; congr 1; exact View.read_write_univ _ _
end Access

/-- Contents that a view reads alike agree on its elements. -/
theorem agree {κ : Kind} {sp : Space} {s : Shape} {e : EltTy} (v : View sig κ sp s e) {f g : v.ty.Contents (Elt F)} (h : v.read (Elt F) f = v.read (Elt F) g) :
    ∀ i ∈ v.set, f i = g i := by
  intro i hi
  rw [View.set, Finset.mem_map] at hi
  obtain ⟨k, -, rfl⟩ := hi
  have := congrFun h k
  rw [View.read_apply, View.read_apply] at this
  exact (cast_inj _).mp this

/-- A copy under way whose block will read as `G`'s is one that leaves the block at `G`. -/
theorem winfl_of (c : Dev nD) (M : Memref sig .tc .vmem S2x8x100000 .f32) (O : Memref sig .tc .hbm S128x100000 .f32) (A : DmaSems sig S2)
    (G : Buf (Elt F) (O.view.loc (c : Thread nD τ))) (g : Fin 2) (u : Fin 16) (f : Buf (Elt F) ((rows O u).view.loc (c : Thread nD τ)))
    (e : Buf (Elt F) ((slot M g).view.loc (c : Thread nD τ))) (h : (rows O u).view.read (Elt F) f = block c O G u) :
    (Transfers.Flight countersEmb (c : Thread nD τ) (cellAt A g) default ((rows O u).view.amount (cellAt A g)) iprop(pieceP c O u f ∗ slotP c M g e) : sProp 𝕄)
      ⊢ winfl c M O A G g u := by
  rw [show (pieceP c O u f : sProp 𝕄) = pieceP c O u G from pointsTo_congr (agree (rows O u).view h)]
  iintro H; iexists e; iexact H

/-! ## The two copies a point starts -/

section Sent
variable (c : Dev nD) (t : Fin cfg0.N) (X : Buf (Elt F) (xM.view.loc (c : Thread nD τ))) (N : Buf (Elt F) (nM.view.loc (c : Thread nD τ)))

/-- The logits' block that point `t` loads from the slot where it has landed. -/
abbrev gotX (f : xS.view.ty.Contents (Elt F)) : Vec F S1x8x100000 .f32 :=
  xS.view.readAt (Elt F) (Rect.unit (s := S2x8x100000) (k0_off10 (grid0.coords t)) S1x8x100000.size (k0_off10_inb (grid0.coords t))).toLoadRect
    ((slot xS (Ring.sl 2 t.val)).view.writes (Elt F) f [⟨Rect.whole S8x100000, block c xM X (Ring.bk 16 t.val)⟩])
/-- The noise's block that point `t` loads from the slot where it has landed. -/
abbrev gotN (f : nS.view.ty.Contents (Elt F)) : Vec F S1x8x100000 .f32 :=
  nS.view.readAt (Elt F) (Rect.unit (s := S2x8x100000) (k0_off10 (grid0.coords t)) S1x8x100000.size (k0_off10_inb (grid0.coords t))).toLoadRect
    ((slot nS (Ring.sl 2 t.val)).view.writes (Elt F) f [⟨Rect.whole S8x100000, block c nM N (Ring.bk 16 t.val)⟩])
/-- A slot after point `t`'s store. -/
abbrev stored (M : Memref sig .tc .vmem S2x8x100000 .f32) (e : M.view.ty.Contents (Elt F)) (v : Vec F S1x8x100000 .f32) : M.view.ty.Contents (Elt F) :=
  View.write (Elt F) (M.view.slice (Rect.unit (s := S2x8x100000) (k0_off10 (grid0.coords t)) S1x8x100000.size (k0_off10_inb (grid0.coords t)))) e v Finset.univ

/-- What point `t` stores for the first result. -/
abbrev retPay (f : xS.view.ty.Contents (Elt F)) (f' : nS.view.ty.Contents (Elt F)) : Vec F S1x8x100000 .f32 :=
  k0_pay2 (k0_pay4 (gotX c t X f)) (k0_pay5 (gotX c t X f)) (k0_pay6 (gotX c t X f)) (gotN c t N f')
/-- What point `t` stores for the second result. -/
abbrev lgPay (f : xS.view.ty.Contents (Elt F)) : Vec F S1x8x100000 .f32 :=
  k0_pay3 (k0_pay4 (gotX c t X f)) (k0_pay5 (gotX c t X f)) (k0_pay6 (gotX c t X f))

theorem retPay_eq (f : xS.view.ty.Contents (Elt F)) (f' : nS.view.ty.Contents (Elt F)) :
    shapeCast S8x100000 (retPay c t X N f f') casts_down = retBlock (block c xM X (Ring.bk 16 t.val)) (block c nM N (Ring.bk 16 t.val)) := by
  rw [retPay, show gotX c t X f = up _ from load_landed xS (off10 t) _ f _, show gotN c t N f' = up _ from load_landed nS (off10 t) _ f' _]
  rfl
theorem lgPay_eq (f : xS.view.ty.Contents (Elt F)) :
    shapeCast S8x100000 (lgPay c t X f) casts_down = lgBlock (block c xM X (Ring.bk 16 t.val)) := by
  rw [lgPay, show gotX c t X f = up _ from load_landed xS (off10 t) _ f _]
  rfl

/-- A result's block after the copy of a stored slot over it. -/
abbrev copied (M : Memref sig .tc .vmem S2x8x100000 .f32) (O : Memref sig .tc .hbm S128x100000 .f32) (p : O.view.ty.Contents (Elt F)) (e : M.view.ty.Contents (Elt F))
    (v : Vec F S1x8x100000 .f32) : (rows O (Ring.bk 16 t.val)).view.ty.Contents (Elt F) :=
  (rows O (Ring.bk 16 t.val)).view.writes (Elt F) p [⟨Rect.whole S8x100000, (slot M (Ring.sl 2 t.val)).view.read (Elt F) (stored t M e v)⟩]

theorem copied_read (M : Memref sig .tc .vmem S2x8x100000 .f32) (O : Memref sig .tc .hbm S128x100000 .f32) (p : O.view.ty.Contents (Elt F)) (e : M.view.ty.Contents (Elt F))
    (v : Vec F S1x8x100000 .f32) : (rows O (Ring.bk 16 t.val)).view.read (Elt F) (copied t M O p e v) = shapeCast S8x100000 v casts_down :=
  (View.read_writes_whole (Val := Elt F) (rows O (Ring.bk 16 t.val)).view p _).trans (sent M (off10 t) _ e _)

/-- The copy of a result's block, under way, leaves the block at `G` where `G`'s block is what was stored. -/
theorem copy_flight (M : Memref sig .tc .vmem S2x8x100000 .f32) (O : Memref sig .tc .hbm S128x100000 .f32) (A : DmaSems sig S2) (G : Buf (Elt F) (O.view.loc (c : Thread nD τ)))
    (p : O.view.ty.Contents (Elt F)) (e : M.view.ty.Contents (Elt F)) (v : Vec F S1x8x100000 .f32)
    (h : shapeCast S8x100000 v casts_down = block c O G (Ring.bk 16 t.val)) :
    (Transfers.Flight countersEmb (c : Thread nD τ) (cellAt A (Ring.sl 2 t.val)) default ((rows O (Ring.bk 16 t.val)).view.amount (cellAt A (Ring.sl 2 t.val)))
      iprop(pieceP c O (Ring.bk 16 t.val) (copied t M O p e v) ∗ slotP c M (Ring.sl 2 t.val) (stored t M e v)) : sProp 𝕄)
      ⊢ winfl c M O A G (Ring.sl 2 t.val) (Ring.bk 16 t.val) :=
  winfl_of c M O A G _ _ _ _ ((copied_read t M O p e v).trans h)

/-- The same once it has arrived. -/
theorem copy_piece (M : Memref sig .tc .vmem S2x8x100000 .f32) (O : Memref sig .tc .hbm S128x100000 .f32) (G : Buf (Elt F) (O.view.loc (c : Thread nD τ)))
    (p : O.view.ty.Contents (Elt F)) (e : M.view.ty.Contents (Elt F)) (v : Vec F S1x8x100000 .f32)
    (h : shapeCast S8x100000 v casts_down = block c O G (Ring.bk 16 t.val)) :
    (pieceP c O (Ring.bk 16 t.val) (copied t M O p e v) : sProp 𝕄) ⊢ behind c O G (Ring.bk 16 t.val) :=
  Entails.of_eq (pointsTo_congr (agree (rows O (Ring.bk 16 t.val)).view ((copied_read t M O p e v).trans h)))
end Sent

end Cert.KernelIdeal.Hand

end
end
-- ==== Proof.Runs.lean ====
/-
  The kernel's body run at a point, by the case its four conditions make of it.
-/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 2000000 in
/-- Point 0: its own blocks and the next ones are fetched; no copy is waited for. -/
theorem run_first (c : Dev nD) (t : Fin cfg0.N) (hc0 : isFirst (grid0.coords t)) (hc1 : hasNext (grid0.coords t)) (hc2 : ¬hasPast (grid0.coords t)) (hc3 : ¬isLast (grid0.coords t))
    (X : RowsBuf (F := F) c xM) (N : RowsBuf (F := F) c nM) (Gr : RowsBuf (F := F) c rM) (Gl : RowsBuf (F := F) c lM) (hr : block c rM Gr (Ring.bk 16 t.val) = retBlock (block c xM X (Ring.bk 16 t.val)) (block c nM N (Ring.bk 16 t.val)))
    (hl : block c lM Gl (Ring.bk 16 t.val) = lgBlock (block c xM X (Ring.bk 16 t.val))) (W : Waits sig Unit) (K : PUnit → sProp 𝕄) :
    iprop(Ring.free (cellP c cc0_scratch4) (slotW c xS xM X) (Ring.sl 2 t.val)
        ∗ Ring.free (cellP c cc0_scratch4) (slotW c xS xM X) (Ring.sl 2 (t.val + 1))
        ∗ Ring.free (cellP c cc0_scratch5) (slotW c nS nM N) (Ring.sl 2 t.val)
        ∗ Ring.free (cellP c cc0_scratch5) (slotW c nS nM N) (Ring.sl 2 (t.val + 1))
        ∗ ahead c rM (Ring.bk 16 t.val) ∗ wfree (F := F) c rS cc0_scratch6 (Ring.sl 2 t.val)
        ∗ ahead c lM (Ring.bk 16 t.val) ∗ wfree (F := F) c lS cc0_scratch7 (Ring.sl 2 t.val)
        ∗ owes (c : Thread nD τ) 0 W
        ∗ (iprop(Ring.inflight (flightW c xS xM cc0_scratch4 X) (Ring.sl 2 (t.val + 1)) (Ring.bk 16 (t.val + 1))
            ∗ Ring.kept (cellP c cc0_scratch4) (slotW c xS xM X) (fun s b f => landed c xS xM X s b f) (Ring.sl 2 t.val) (Ring.bk 16 t.val)
            ∗ Ring.inflight (flightW c nS nM cc0_scratch5 N) (Ring.sl 2 (t.val + 1)) (Ring.bk 16 (t.val + 1))
            ∗ Ring.kept (cellP c cc0_scratch5) (slotW c nS nM N) (fun s b f => landed c nS nM N s b f) (Ring.sl 2 t.val) (Ring.bk 16 t.val)
            ∗ winfl c rS rM cc0_scratch6 Gr (Ring.sl 2 t.val) (Ring.bk 16 t.val)
            ∗ winfl c lS lM cc0_scratch7 Gl (Ring.sl 2 t.val) (Ring.bk 16 t.val)
            ∗ (∃ W', owes (c : Thread nD τ) 0 W')) -∗ K ⟨⟩))
      ⊢ wp frame (wpE (defs₀ (F := F)) Variants.none c none) Set.univ (bodyAt0 t) K := by
    haveI : Fact (isFirst (grid0.coords t)) := ⟨hc0⟩
    haveI : Fact (hasNext (grid0.coords t)) := ⟨hc1⟩
    haveI : Fact (¬hasPast (grid0.coords t)) := ⟨hc2⟩
    haveI : Fact (¬isLast (grid0.coords t)) := ⟨hc3⟩
    unfold bodyAt0
    simp only [cc0__gs_kernel_eq_skeleton]; unfold cc0__gs_kernel_skel
    simp only [k0_part1_eq_skeleton]
    have hcanon0 := slot_first xS t hc0
    have hcanon1 := slot_first nS t hc0
    have hcanon2 := cell_first cc0_scratch4 t hc0
    have hcanon3 := cell_first cc0_scratch5 t hc0
    have hcanon4 := rows_first xM t hc0
    have hcanon5 := rows_first nM t hc0
    unfold Ring.free Ring.inflight Ring.kept wfree
    iintro ⟨⟨Hfx, ⟨%fx, Hfx_dst, Hvx⟩⟩, ⟨Hcx, ⟨%gx, Hsx, Hwx⟩⟩, ⟨Hfn, ⟨%fn, Hfn_dst, Hvn⟩⟩, ⟨Hcn, ⟨%gn, Hsn, Hwn⟩⟩, ⟨%pr, Hpr⟩, ⟨HFr, ⟨%er, Her⟩⟩, ⟨%pl, Hpl⟩, ⟨HFl, ⟨%el, Hel⟩⟩, HW, Hk⟩
    ihave Hx := (lent_split c xM X (Ring.sl 2 (t.val + 1)) (Ring.bk 16 (t.val + 1))).1 $$ Hwx
    icases Hx with ⟨Hhx, Hqx⟩
    ihave Hn := (lent_split c nM N (Ring.sl 2 (t.val + 1)) (Ring.bk 16 (t.val + 1))).1 $$ Hwn
    icases Hn with ⟨Hhn, Hqn⟩
    ihave Hx := (lent_split c xM X (Ring.sl 2 t.val) (Ring.bk 16 t.val)).1 $$ Hvx
    icases Hx with ⟨Hfx_src, Hrx⟩
    ihave Hn := (lent_split c nM N (Ring.sl 2 t.val) (Ring.bk 16 t.val)).1 $$ Hvn
    icases Hn with ⟨Hfn_src, Hrn⟩
    sl_exec (disch := first | sl_exact hc0 | sl_exact hc1 | sl_exact hc2 | sl_exact hc3)
    sl_step
    iapply Hk
    isplitl [Hcx Hqx]
    · iexists _; isplitl [Hcx]; · iexact Hcx
      iexact Hqx
    isplitl [Hfx Hfx_dst Hfx_src Hrx]
    · isplitl [Hfx]; · iexact Hfx
      iexists _; isplitl [Hfx_dst]; · iexact Hfx_dst
      iapply (lent_split c xM X (Ring.sl 2 t.val) (Ring.bk 16 t.val)).2; isplitl [Hfx_src]; · iexact Hfx_src
      iexact Hrx
    isplitl [Hcn Hqn]
    · iexists _; isplitl [Hcn]; · iexact Hcn
      iexact Hqn
    isplitl [Hfn Hfn_dst Hfn_src Hrn]
    · isplitl [Hfn]; · iexact Hfn
      iexists _; isplitl [Hfn_dst]; · iexact Hfn_dst
      iapply (lent_split c nM N (Ring.sl 2 t.val) (Ring.bk 16 t.val)).2; isplitl [Hfn_src]; · iexact Hfn_src
      iexact Hrn
    isplitl [HFr]; · iapply (copy_flight c t rS rM cc0_scratch6 Gr _ _ _ ((retPay_eq c t X N _ _).trans hr.symm)); iexact HFr
    isplitl [HFl]; · iapply (copy_flight c t lS lM cc0_scratch7 Gl _ _ _ ((lgPay_eq c t X _).trans hl.symm)); iexact HFl
    iexists _; iexact HW

set_option maxHeartbeats 2000000 in
/-- Point 1: the next blocks are fetched; no copy is waited for. -/
theorem run_second (c : Dev nD) (t : Fin cfg0.N) (hc0 : ¬isFirst (grid0.coords t)) (hc1 : hasNext (grid0.coords t)) (hc2 : ¬hasPast (grid0.coords t)) (hc3 : ¬isLast (grid0.coords t))
    (X : RowsBuf (F := F) c xM) (N : RowsBuf (F := F) c nM) (Gr : RowsBuf (F := F) c rM) (Gl : RowsBuf (F := F) c lM) (hr : block c rM Gr (Ring.bk 16 t.val) = retBlock (block c xM X (Ring.bk 16 t.val)) (block c nM N (Ring.bk 16 t.val)))
    (hl : block c lM Gl (Ring.bk 16 t.val) = lgBlock (block c xM X (Ring.bk 16 t.val))) (W : Waits sig Unit) (K : PUnit → sProp 𝕄) :
    iprop(Ring.inflight (flightW c xS xM cc0_scratch4 X) (Ring.sl 2 t.val) (Ring.bk 16 t.val)
        ∗ Ring.kept (cellP c cc0_scratch4) (slotW c xS xM X) (fun s b f => landed c xS xM X s b f) (Ring.sl 2 (t.val + 1)) (Ring.bk 16 (t.val - 1))
        ∗ Ring.inflight (flightW c nS nM cc0_scratch5 N) (Ring.sl 2 t.val) (Ring.bk 16 t.val)
        ∗ Ring.kept (cellP c cc0_scratch5) (slotW c nS nM N) (fun s b f => landed c nS nM N s b f) (Ring.sl 2 (t.val + 1)) (Ring.bk 16 (t.val - 1))
        ∗ ahead c rM (Ring.bk 16 t.val) ∗ wfree (F := F) c rS cc0_scratch6 (Ring.sl 2 t.val)
        ∗ ahead c lM (Ring.bk 16 t.val) ∗ wfree (F := F) c lS cc0_scratch7 (Ring.sl 2 t.val)
        ∗ owes (c : Thread nD τ) 0 W
        ∗ (iprop(Ring.inflight (flightW c xS xM cc0_scratch4 X) (Ring.sl 2 (t.val + 1)) (Ring.bk 16 (t.val + 1))
            ∗ Ring.kept (cellP c cc0_scratch4) (slotW c xS xM X) (fun s b f => landed c xS xM X s b f) (Ring.sl 2 t.val) (Ring.bk 16 t.val)
            ∗ Ring.inflight (flightW c nS nM cc0_scratch5 N) (Ring.sl 2 (t.val + 1)) (Ring.bk 16 (t.val + 1))
            ∗ Ring.kept (cellP c cc0_scratch5) (slotW c nS nM N) (fun s b f => landed c nS nM N s b f) (Ring.sl 2 t.val) (Ring.bk 16 t.val)
            ∗ winfl c rS rM cc0_scratch6 Gr (Ring.sl 2 t.val) (Ring.bk 16 t.val)
            ∗ winfl c lS lM cc0_scratch7 Gl (Ring.sl 2 t.val) (Ring.bk 16 t.val)
            ∗ (∃ W', owes (c : Thread nD τ) 0 W')) -∗ K ⟨⟩))
      ⊢ wp frame (wpE (defs₀ (F := F)) Variants.none c none) Set.univ (bodyAt0 t) K := by
    haveI : Fact (¬isFirst (grid0.coords t)) := ⟨hc0⟩
    haveI : Fact (hasNext (grid0.coords t)) := ⟨hc1⟩
    haveI : Fact (¬hasPast (grid0.coords t)) := ⟨hc2⟩
    haveI : Fact (¬isLast (grid0.coords t)) := ⟨hc3⟩
    unfold bodyAt0
    simp only [cc0__gs_kernel_eq_skeleton]; unfold cc0__gs_kernel_skel
    simp only [k0_part1_eq_skeleton]
    unfold Ring.inflight Ring.kept wfree
    iintro ⟨⟨%fx, Hfx, Hrx⟩, ⟨Hcx, ⟨%gx, Hsx, Hwx⟩⟩, ⟨%fn, Hfn, Hrn⟩, ⟨Hcn, ⟨%gn, Hsn, Hwn⟩⟩, ⟨%pr, Hpr⟩, ⟨HFr, ⟨%er, Her⟩⟩, ⟨%pl, Hpl⟩, ⟨HFl, ⟨%el, Hel⟩⟩, HW, Hk⟩
    ihave Hx := (lent_split c xM X (Ring.sl 2 (t.val + 1)) (Ring.bk 16 (t.val + 1))).1 $$ Hwx
    icases Hx with ⟨Hhx, Hqx⟩
    ihave Hn := (lent_split c nM N (Ring.sl 2 (t.val + 1)) (Ring.bk 16 (t.val + 1))).1 $$ Hwn
    icases Hn with ⟨Hhn, Hqn⟩
    sl_exec (disch := first | sl_exact hc0 | sl_exact hc1 | sl_exact hc2 | sl_exact hc3)
    sl_step
    iapply Hk
    isplitl [Hcx Hqx]
    · iexists _; isplitl [Hcx]; · iexact Hcx
      iexact Hqx
    isplitl [Hfx Hfx_dst Hfx_src Hrx]
    · isplitl [Hfx]; · iexact Hfx
      iexists _; isplitl [Hfx_dst]; · iexact Hfx_dst
      iapply (lent_split c xM X (Ring.sl 2 t.val) (Ring.bk 16 t.val)).2; isplitl [Hfx_src]; · iexact Hfx_src
      iexact Hrx
    isplitl [Hcn Hqn]
    · iexists _; isplitl [Hcn]; · iexact Hcn
      iexact Hqn
    isplitl [Hfn Hfn_dst Hfn_src Hrn]
    · isplitl [Hfn]; · iexact Hfn
      iexists _; isplitl [Hfn_dst]; · iexact Hfn_dst
      iapply (lent_split c nM N (Ring.sl 2 t.val) (Ring.bk 16 t.val)).2; isplitl [Hfn_src]; · iexact Hfn_src
      iexact Hrn
    isplitl [HFr]; · iapply (copy_flight c t rS rM cc0_scratch6 Gr _ _ _ ((retPay_eq c t X N _ _).trans hr.symm)); iexact HFr
    isplitl [HFl]; · iapply (copy_flight c t lS lM cc0_scratch7 Gl _ _ _ ((lgPay_eq c t X _).trans hl.symm)); iexact HFl
    iexists _; iexact HW

set_option maxHeartbeats 2000000 in
/-- Points 2 to 14: the next blocks are fetched, and the copies of two points before are waited for. -/
theorem run_mid (c : Dev nD) (t : Fin cfg0.N) (hc0 : ¬isFirst (grid0.coords t)) (hc1 : hasNext (grid0.coords t)) (hc2 : hasPast (grid0.coords t)) (hc3 : ¬isLast (grid0.coords t))
    (X : RowsBuf (F := F) c xM) (N : RowsBuf (F := F) c nM) (Gr : RowsBuf (F := F) c rM) (Gl : RowsBuf (F := F) c lM) (hr : block c rM Gr (Ring.bk 16 t.val) = retBlock (block c xM X (Ring.bk 16 t.val)) (block c nM N (Ring.bk 16 t.val)))
    (hl : block c lM Gl (Ring.bk 16 t.val) = lgBlock (block c xM X (Ring.bk 16 t.val))) (W : Waits sig Unit) (K : PUnit → sProp 𝕄) :
    iprop(Ring.inflight (flightW c xS xM cc0_scratch4 X) (Ring.sl 2 t.val) (Ring.bk 16 t.val)
        ∗ Ring.kept (cellP c cc0_scratch4) (slotW c xS xM X) (fun s b f => landed c xS xM X s b f) (Ring.sl 2 (t.val + 1)) (Ring.bk 16 (t.val - 1))
        ∗ Ring.inflight (flightW c nS nM cc0_scratch5 N) (Ring.sl 2 t.val) (Ring.bk 16 t.val)
        ∗ Ring.kept (cellP c cc0_scratch5) (slotW c nS nM N) (fun s b f => landed c nS nM N s b f) (Ring.sl 2 (t.val + 1)) (Ring.bk 16 (t.val - 1))
        ∗ ahead c rM (Ring.bk 16 t.val) ∗ winfl c rS rM cc0_scratch6 Gr (Ring.sl 2 t.val) (Ring.bk 16 (t.val - 2))
        ∗ ahead c lM (Ring.bk 16 t.val) ∗ winfl c lS lM cc0_scratch7 Gl (Ring.sl 2 t.val) (Ring.bk 16 (t.val - 2))
        ∗ owes (c : Thread nD τ) 0 W
        ∗ (iprop(Ring.inflight (flightW c xS xM cc0_scratch4 X) (Ring.sl 2 (t.val + 1)) (Ring.bk 16 (t.val + 1))
            ∗ Ring.kept (cellP c cc0_scratch4) (slotW c xS xM X) (fun s b f => landed c xS xM X s b f) (Ring.sl 2 t.val) (Ring.bk 16 t.val)
            ∗ Ring.inflight (flightW c nS nM cc0_scratch5 N) (Ring.sl 2 (t.val + 1)) (Ring.bk 16 (t.val + 1))
            ∗ Ring.kept (cellP c cc0_scratch5) (slotW c nS nM N) (fun s b f => landed c nS nM N s b f) (Ring.sl 2 t.val) (Ring.bk 16 t.val)
            ∗ behind c rM Gr (Ring.bk 16 (t.val - 2)) ∗ winfl c rS rM cc0_scratch6 Gr (Ring.sl 2 t.val) (Ring.bk 16 t.val)
            ∗ behind c lM Gl (Ring.bk 16 (t.val - 2)) ∗ winfl c lS lM cc0_scratch7 Gl (Ring.sl 2 t.val) (Ring.bk 16 t.val)
            ∗ (∃ W', owes (c : Thread nD τ) 0 W')) -∗ K ⟨⟩))
      ⊢ wp frame (wpE (defs₀ (F := F)) Variants.none c none) Set.univ (bodyAt0 t) K := by
    haveI : Fact (¬isFirst (grid0.coords t)) := ⟨hc0⟩
    haveI : Fact (hasNext (grid0.coords t)) := ⟨hc1⟩
    haveI : Fact (hasPast (grid0.coords t)) := ⟨hc2⟩
    haveI : Fact (¬isLast (grid0.coords t)) := ⟨hc3⟩
    unfold bodyAt0
    simp only [cc0__gs_kernel_eq_skeleton]; unfold cc0__gs_kernel_skel
    simp only [k0_part1_eq_skeleton]
    unfold Ring.inflight Ring.kept
    iintro ⟨⟨%fx, Hfx, Hrx⟩, ⟨Hcx, ⟨%gx, Hsx, Hwx⟩⟩, ⟨%fn, Hfn, Hrn⟩, ⟨Hcn, ⟨%gn, Hsn, Hwn⟩⟩, ⟨%pr, Hpr⟩, ⟨%er, HFr⟩, ⟨%pl, Hpl⟩, ⟨%el, HFl⟩, HW, Hk⟩
    ihave Hx := (lent_split c xM X (Ring.sl 2 (t.val + 1)) (Ring.bk 16 (t.val + 1))).1 $$ Hwx
    icases Hx with ⟨Hhx, Hqx⟩
    ihave Hn := (lent_split c nM N (Ring.sl 2 (t.val + 1)) (Ring.bk 16 (t.val + 1))).1 $$ Hwn
    icases Hn with ⟨Hhn, Hqn⟩
    sl_exec (disch := first | sl_exact hc0 | sl_exact hc1 | sl_exact hc2 | sl_exact hc3)
    sl_step
    iapply Hk
    isplitl [Hcx Hqx]
    · iexists _; isplitl [Hcx]; · iexact Hcx
      iexact Hqx
    isplitl [Hfx Hfx_dst Hfx_src Hrx]
    · isplitl [Hfx]; · iexact Hfx
      iexists _; isplitl [Hfx_dst]; · iexact Hfx_dst
      iapply (lent_split c xM X (Ring.sl 2 t.val) (Ring.bk 16 t.val)).2; isplitl [Hfx_src]; · iexact Hfx_src
      iexact Hrx
    isplitl [Hcn Hqn]
    · iexists _; isplitl [Hcn]; · iexact Hcn
      iexact Hqn
    isplitl [Hfn Hfn_dst Hfn_src Hrn]
    · isplitl [Hfn]; · iexact Hfn
      iexists _; isplitl [Hfn_dst]; · iexact Hfn_dst
      iapply (lent_split c nM N (Ring.sl 2 t.val) (Ring.bk 16 t.val)).2; isplitl [Hfn_src]; · iexact Hfn_src
      iexact Hrn
    isplitl [HFr_dst]; · iexact HFr_dst
    isplitl [HFr]; · iapply (copy_flight c t rS rM cc0_scratch6 Gr _ _ _ ((retPay_eq c t X N _ _).trans hr.symm)); iexact HFr
    isplitl [HFl_dst]; · iexact HFl_dst
    isplitl [HFl]; · iapply (copy_flight c t lS lM cc0_scratch7 Gl _ _ _ ((lgPay_eq c t X _).trans hl.symm)); iexact HFl
    iexists _; iexact HW

set_option maxHeartbeats 2000000 in
/-- Point 15: nothing is fetched, and every copy still under way is waited for. -/
theorem run_last (c : Dev nD) (t : Fin cfg0.N) (hc0 : ¬isFirst (grid0.coords t)) (hc1 : ¬hasNext (grid0.coords t)) (hc2 : hasPast (grid0.coords t)) (hc3 : isLast (grid0.coords t))
    (X : RowsBuf (F := F) c xM) (N : RowsBuf (F := F) c nM) (Gr : RowsBuf (F := F) c rM) (Gl : RowsBuf (F := F) c lM) (hr : block c rM Gr (Ring.bk 16 t.val) = retBlock (block c xM X (Ring.bk 16 t.val)) (block c nM N (Ring.bk 16 t.val)))
    (hl : block c lM Gl (Ring.bk 16 t.val) = lgBlock (block c xM X (Ring.bk 16 t.val))) (W : Waits sig Unit) (K : PUnit → sProp 𝕄) :
    iprop(Ring.inflight (flightW c xS xM cc0_scratch4 X) (Ring.sl 2 t.val) (Ring.bk 16 t.val)
        ∗ Ring.inflight (flightW c nS nM cc0_scratch5 N) (Ring.sl 2 t.val) (Ring.bk 16 t.val)
        ∗ ahead c rM (Ring.bk 16 t.val) ∗ winfl c rS rM cc0_scratch6 Gr (Ring.sl 2 t.val) (Ring.bk 16 (t.val - 2))
        ∗ winfl c rS rM cc0_scratch6 Gr (Ring.sl 2 (t.val + 1)) (Ring.bk 16 (t.val - 1))
        ∗ ahead c lM (Ring.bk 16 t.val) ∗ winfl c lS lM cc0_scratch7 Gl (Ring.sl 2 t.val) (Ring.bk 16 (t.val - 2))
        ∗ winfl c lS lM cc0_scratch7 Gl (Ring.sl 2 (t.val + 1)) (Ring.bk 16 (t.val - 1))
        ∗ owes (c : Thread nD τ) 0 W
        ∗ (iprop(Ring.kept (cellP c cc0_scratch4) (slotW c xS xM X) (fun s b f => landed c xS xM X s b f) (Ring.sl 2 t.val) (Ring.bk 16 t.val)
            ∗ Ring.kept (cellP c cc0_scratch5) (slotW c nS nM N) (fun s b f => landed c nS nM N s b f) (Ring.sl 2 t.val) (Ring.bk 16 t.val)
            ∗ behind c rM Gr (Ring.bk 16 t.val) ∗ behind c rM Gr (Ring.bk 16 (t.val - 2)) ∗ behind c rM Gr (Ring.bk 16 (t.val - 1))
            ∗ wfree (F := F) c rS cc0_scratch6 (Ring.sl 2 t.val) ∗ wfree (F := F) c rS cc0_scratch6 (Ring.sl 2 (t.val + 1))
            ∗ behind c lM Gl (Ring.bk 16 t.val) ∗ behind c lM Gl (Ring.bk 16 (t.val - 2)) ∗ behind c lM Gl (Ring.bk 16 (t.val - 1))
            ∗ wfree (F := F) c lS cc0_scratch7 (Ring.sl 2 t.val) ∗ wfree (F := F) c lS cc0_scratch7 (Ring.sl 2 (t.val + 1))
            ∗ (∃ W', owes (c : Thread nD τ) 0 W')) -∗ K ⟨⟩))
      ⊢ wp frame (wpE (defs₀ (F := F)) Variants.none c none) Set.univ (bodyAt0 t) K := by
    haveI : Fact (¬isFirst (grid0.coords t)) := ⟨hc0⟩
    haveI : Fact (¬hasNext (grid0.coords t)) := ⟨hc1⟩
    haveI : Fact (hasPast (grid0.coords t)) := ⟨hc2⟩
    haveI : Fact (isLast (grid0.coords t)) := ⟨hc3⟩
    unfold bodyAt0
    simp only [cc0__gs_kernel_eq_skeleton]; unfold cc0__gs_kernel_skel
    simp only [k0_part1_eq_skeleton]
    unfold Ring.inflight Ring.kept wfree
    iintro ⟨⟨%fx, Hfx, Hrx⟩, ⟨%fn, Hfn, Hrn⟩, ⟨%pr, Hpr⟩, ⟨%er, HFr⟩, ⟨%ir, HIr⟩, ⟨%pl, Hpl⟩, ⟨%el, HFl⟩, ⟨%il, HIl⟩, HW, Hk⟩
    sl_exec (disch := first | sl_exact hc0 | sl_exact hc1 | sl_exact hc2 | sl_exact hc3)
    sl_step
    iapply Hk
    isplitl [Hfx Hfx_dst Hfx_src Hrx]
    · isplitl [Hfx]; · iexact Hfx
      iexists _; isplitl [Hfx_dst]; · iexact Hfx_dst
      iapply (lent_split c xM X (Ring.sl 2 t.val) (Ring.bk 16 t.val)).2; isplitl [Hfx_src]; · iexact Hfx_src
      iexact Hrx
    isplitl [Hfn Hfn_dst Hfn_src Hrn]
    · isplitl [Hfn]; · iexact Hfn
      iexists _; isplitl [Hfn_dst]; · iexact Hfn_dst
      iapply (lent_split c nM N (Ring.sl 2 t.val) (Ring.bk 16 t.val)).2; isplitl [Hfn_src]; · iexact Hfn_src
      iexact Hrn
    isplitl [Hpr]; · iapply (copy_piece c t rS rM Gr _ _ _ ((retPay_eq c t X N _ _).trans hr.symm)); iexact Hpr
    isplitl [HFr_dst]; · iexact HFr_dst
    isplitl [HIr_dst]; · iexact HIr_dst
    isplitl [HFr HFr_src]
    · isplitl [HFr]; · iexact HFr
      iexists _; iexact HFr_src
    isplitl [HIr HIr_src]
    · isplitl [HIr]; · iexact HIr
      iexists _; iexact HIr_src
    isplitl [Hpl]; · iapply (copy_piece c t lS lM Gl _ _ _ ((lgPay_eq c t X _).trans hl.symm)); iexact Hpl
    isplitl [HFl_dst]; · iexact HFl_dst
    isplitl [HIl_dst]; · iexact HIl_dst
    isplitl [HFl HFl_src]
    · isplitl [HFl]; · iexact HFl
      iexists _; iexact HFl_src
    isplitl [HIl HIl_src]
    · isplitl [HIl]; · iexact HIl
      iexists _; iexact HIl_src
    iexists _; iexact HW

end Cert.KernelIdeal.Hand

end
end
-- ==== Proof.Steps.lean ====
/-
  What a point takes out of each ring and what the ring is after it hands the pieces back.
-/
module

public import proofs.«01_k».proof.Proof.Rings

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Reading
variable (c : Dev nD) (M : Memref sig .tc .vmem S2x8x100000 .f32) (H : Memref sig .tc .hbm S128x100000 .f32) (A : DmaSems sig S2)
  (W : Buf (Elt F) (H.view.loc (c : Thread nD τ)))

/-- A slot whose block is on its way. -/
abbrev fetching (s : Fin 2) (b : Fin 16) : sProp 𝕄 := Ring.inflight (flightW c M H A W) s b
/-- A slot at rest, block `b` in it. -/
abbrev holding (s : Fin 2) (b : Fin 16) : sProp 𝕄 := Ring.kept (cellP c A) (slotW c M H W) (fun s b f => landed c M H W s b f) s b
/-- A slot at rest. -/
abbrev resting (s : Fin 2) : sProp 𝕄 := Ring.free (cellP c A) (slotW c M H W) s

/-- Point 0 finds both slots at rest. -/
theorem readRing_first (k : ℕ) (hk : k = 0) :
    readRing c M H A W k ⊢ iprop(resting c M H A W (Ring.sl 2 k) ∗ resting c M H A W (Ring.sl 2 (k + 1))
      ∗ (iprop(fetching c M H A W (Ring.sl 2 (k + 1)) (Ring.bk 16 (k + 1)) ∗ holding c M H A W (Ring.sl 2 k) (Ring.bk 16 k)) -∗ readRing c M H A W (k + 1))) := by
  unfold readRing
  rw [if_pos hk, if_neg (show ¬k + 1 = 0 by omega), Ring.At₀_eq2' _ _ _ k hk (by decide : 2 ≤ 16), Ring.AtK2_one' _ _ _ _ _ k hk (by decide : 1 < 16)]
  iintro ⟨-, H0, H1⟩
  isplitl [H0]; · iexact H0
  isplitl [H1]; · iexact H1
  iintro ⟨Hf, Hk⟩
  iapply Ring.with_homes₀
  isplitl [Hf]; · iexact Hf
  iexact Hk

/-- A later point finds its own block on its way and the block before at rest. -/
theorem readRing_mid (k : ℕ) (h1 : 1 ≤ k) (hB : k + 1 < 16) :
    readRing c M H A W k ⊢ iprop(fetching c M H A W (Ring.sl 2 k) (Ring.bk 16 k) ∗ holding c M H A W (Ring.sl 2 (k + 1)) (Ring.bk 16 (k - 1))
      ∗ (iprop(fetching c M H A W (Ring.sl 2 (k + 1)) (Ring.bk 16 (k + 1)) ∗ holding c M H A W (Ring.sl 2 k) (Ring.bk 16 k)) -∗ readRing c M H A W (k + 1))) := by
  unfold readRing
  rw [if_neg (show ¬k = 0 by omega), if_neg (show ¬k + 1 = 0 by omega), Ring.AtK2_here _ _ _ _ _ k h1 hB, Ring.AtK2_next _ _ _ _ _ k h1 hB]
  iintro ⟨-, H0, H1⟩
  isplitl [H0]; · iexact H0
  isplitl [H1]; · iexact H1
  iintro ⟨Hf, Hk⟩
  iapply (Ring.with_homes (Entails.refl _))
  isplitl [Hf]; · iexact Hf
  iexact Hk

/-- The last point fetches nothing. -/
theorem readRing_last (k : ℕ) (h1 : 1 ≤ k) (hB : k + 1 = 16) :
    readRing c M H A W k ⊢ iprop(fetching c M H A W (Ring.sl 2 k) (Ring.bk 16 k)
      ∗ (holding c M H A W (Ring.sl 2 k) (Ring.bk 16 k) -∗ readRing c M H A W (k + 1))) := by
  unfold readRing
  rw [if_neg (show ¬k = 0 by omega), if_neg (show ¬k + 1 = 0 by omega), Ring.AtK2_here_last _ _ _ _ _ k h1 hB, Ring.AtK2_next_last _ _ _ _ _ k h1 hB]
  iintro ⟨-, H0, H1⟩
  isplitl [H0]; · iexact H0
  iintro Hk
  iapply (Ring.with_homes (Entails.refl _))
  isplitl [H1]; · iexact H1
  iexact Hk
end Reading

section Writing
variable (c : Dev nD) (M : Memref sig .tc .vmem S2x8x100000 .f32) (O : Memref sig .tc .hbm S128x100000 .f32) (A : DmaSems sig S2)
  (G : Buf (Elt F) (O.view.loc (c : Thread nD τ)))

/-- Points 0 and 1 find their slot at rest. -/
theorem writeRing_start (k : ℕ) (hk : k < 2) :
    writeRing c M O A G k ⊢ iprop(ahead c O (Ring.bk 16 k) ∗ wfree (F := F) c M A (Ring.sl 2 k)
      ∗ (winfl c M O A G (Ring.sl 2 k) (Ring.bk 16 k) -∗ writeRing c M O A G (k + 1))) := by
  unfold writeRing
  rw [Ring.AtBΦ_lt _ _ _ _ _ k (by omega), Ring.AtBΦ_lt _ _ _ _ _ (k + 1) (by omega)]
  rcases (show k = 0 ∨ k = 1 by omega) with h | h
  · rw [Ring.AtB2_zero' 2 _ _ _ _ k h, Ring.AtB22_next_zero' _ _ _ _ k h]
    iintro ⟨⟨Hp, HA⟩, Hq, Hx⟩
    isplitl [Hp]; · iexact Hp
    isplitl [Hq]; · iexact Hq
    iintro Hn
    isplitl [HA]; · iexact HA
    isplitl [Hx]; · iexact Hx
    iexact Hn
  · rw [Ring.AtB22_one' _ _ _ _ k h (by decide), Ring.AtB22_next_one' _ _ _ _ k h]
    iintro ⟨⟨Hp, HA⟩, Hq, Hx⟩
    isplitl [Hp]; · iexact Hp
    isplitl [Hq]; · iexact Hq
    iintro Hn
    isplitl [HA]; · iexact HA
    isplitl [Hx]; · iexact Hx
    iexact Hn

/-- A later point finds its slot's copy of two points before on its way. -/
theorem writeRing_mid (k : ℕ) (h2 : 2 ≤ k) (hB : k + 1 < 16) :
    writeRing c M O A G k ⊢ iprop(ahead c O (Ring.bk 16 k) ∗ winfl c M O A G (Ring.sl 2 k) (Ring.bk 16 (k - 2))
      ∗ (iprop(behind c O G (Ring.bk 16 (k - 2)) ∗ winfl c M O A G (Ring.sl 2 k) (Ring.bk 16 k)) -∗ writeRing c M O A G (k + 1))) := by
  unfold writeRing
  rw [Ring.AtBΦ_lt _ _ _ _ _ k (by omega), Ring.AtB22_here _ _ _ _ k h2 (by omega), Ring.AtBΦ_lt _ _ _ _ _ (k + 1) hB, Ring.AtB22_next _ _ _ _ k h2 (by omega)]
  iintro ⟨⟨Hp, HA⟩, HB, HF, HI⟩
  isplitl [Hp]; · iexact Hp
  isplitl [HF]; · iexact HF
  iintro ⟨Hb, Hn⟩
  isplitl [HA]; · iexact HA
  isplitl [Hb HB]
  · isplitl [Hb]; · iexact Hb
    iexact HB
  isplitl [HI]; · iexact HI
  iexact Hn

/-- The last point takes both slots' copies and leaves the slots at rest. -/
theorem writeRing_last (k : ℕ) (h2 : 2 ≤ k) (hB : k + 1 = 16) :
    writeRing c M O A G k ⊢ iprop(ahead c O (Ring.bk 16 k) ∗ winfl c M O A G (Ring.sl 2 k) (Ring.bk 16 (k - 2)) ∗ winfl c M O A G (Ring.sl 2 (k + 1)) (Ring.bk 16 (k - 1))
      ∗ (iprop((behind c O G (Ring.bk 16 k) ∗ behind c O G (Ring.bk 16 (k - 2)) ∗ behind c O G (Ring.bk 16 (k - 1)))
          ∗ wfree (F := F) c M A (Ring.sl 2 k) ∗ wfree (F := F) c M A (Ring.sl 2 (k + 1))) -∗ writeRing c M O A G (k + 1))) := by
  unfold writeRing
  rw [Ring.AtBΦ_lt _ _ _ _ _ k (by omega), Ring.AtB22_here_last _ _ _ _ k h2 hB, Ring.AtBΦ_end _ _ _ _ _ (k + 1) hB, Ring.AtB22_drained _ _ k h2 hB]
  iintro ⟨Hp, HB, HF, HI⟩
  isplitl [Hp]; · iexact Hp
  isplitl [HF]; · iexact HF
  isplitl [HI]; · iexact HI
  iintro ⟨⟨H0, H1, H2⟩, Hx, Hy⟩
  isplitl [H0 H1 H2 HB]
  · isplitl [H0]; · iexact H0
    isplitl [H1]; · iexact H1
    isplitl [H2]; · iexact H2
    iexact HB
  isplitl [Hx]; · iexact Hx
  iexact Hy
end Writing

end Cert.KernelIdeal.Hand

end
end
-- ==== Proof.Launch.lean ====
/-
  The launch: the four rings are what the points keep between them, the body keeps them point by point, and so a run of
  the program ends with every block of both results at what its point computes.
-/
module

public import proofs.«01_k».proof.Proof.Runs
public import proofs.«01_k».proof.Proof.Steps
public import proofs.«01_k».proof.Proof.Gen.KernelIdeal.Frame
public import Idealize.ShloMosaic.Lib.Pipeline.FrameValue
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The two results, block by block -/

/-- Sixteen blocks of eight rows, one below the other. -/
def stack (f : Fin 16 → Vec F S8x100000 .f32) : Vec F S128x100000 .f32 := fun j =>
  f ⟨(j 0).val / 8, by have h : (j 0).val < 128 := (j 0).isLt; omega⟩ (ix2 ⟨(j 0).val % 8, by omega⟩ (j 1))

/-- What the first result ends at. -/
def retAll (c : Dev nD) : Vec F S128x100000 .f32 := stack fun u => retBlock (block c xM (V m c main_arg0) u) (block c nM (V m c main_v7) u)
/-- What the second result ends at. -/
def lgAll (c : Dev nD) : Vec F S128x100000 .f32 := stack fun u => lgBlock (block c xM (V m c main_arg0) u)

theorem stack_at (f : Fin 16 → Vec F S8x100000 .f32) (u : Fin 16) (k : S8x100000.Idx) (j : S128x100000.Idx) (h0 : (j 0).val = 8 * u.val + (k 0).val) (h1 : (j 1).val = (k 1).val) :
    stack f j = f u k := by
  have hk : (k 0).val < 8 := (k 0).isLt
  unfold stack
  refine congr ?_ ?_
  · exact congrArg f (Fin.ext (by show (j 0).val / 8 = u.val; omega))
  · funext a; fin_cases a
    · exact Fin.ext (by show (j 0).val % 8 = (k 0).val; omega)
    · exact Fin.ext h1

theorem block_ret (c : Dev nD) (f : Fin 16 → Vec F S8x100000 .f32) (u : Fin 16) : block c rM (stack f) u = f u := by
  funext k
  exact stack_at f u k _ (by show 8 * u.val + 1 * (k 0).val = _; omega) (by show 0 + 1 * (k 1).val = _; omega)
theorem block_lg (c : Dev nD) (f : Fin 16 → Vec F S8x100000 .f32) (u : Fin 16) : block c lM (stack f) u = f u := by
  funext k
  exact stack_at f u k _ (by show 8 * u.val + 1 * (k 0).val = _; omega) (by show 0 + 1 * (k 1).val = _; omega)

/-! ## What the points keep between them -/

/-- Before point `k`: the generator register, and the four rings. -/
def keeps (c : Dev nD) (k : ℕ) : sProp 𝕄 :=
  iprop((∃ r, prngReg c r) ∗ readRing c xS xM cc0_scratch4 (V m c main_arg0) k ∗ readRing c nS nM cc0_scratch5 (V m c main_v7) k
    ∗ writeRing c rS rM cc0_scratch6 (retAll m c) k ∗ writeRing c lS lM cc0_scratch7 (lgAll m c) k)

/-- The launch's proof data: no window is staged, and the invariant is what the points keep. -/
def dats (_ : Fin 1) (c : Dev nD) : Pipeline.Dat τ (Elt F) Unit ℕ (Pipeline.UD sig nD τ) ℕ cfg0 c where
  A w := w.elim0
  after w _ := w.elim0
  Φ t := keeps m c t.val
  q _ := fullShare
  owed _ := 0

theorem A_eq (c : Dev nD) (w : Fin cfg0.W) : (dats m 0 c).A w = V m c (Pipeline.arrRef cfg0.spec w) := w.elim0
theorem keeps_before (c : Dev nD) (t : Fin cfg0.N) : (dats m 0 c).Φ t.castSucc = keeps m c t.val := by
  dsimp only [dats]; simp only [Fin.val_castSucc]
theorem keeps_after (c : Dev nD) (t : Fin cfg0.N) : (dats m 0 c).Φ t.succ = keeps m c (t.val + 1) := by
  dsimp only [dats]; simp only [Fin.val_succ]

/-! ## The body keeps it -/

set_option maxHeartbeats 1600000 in
theorem point_keeps (c : Dev nD) (t : Fin cfg0.N) (W : Waits sig Unit) :
    iprop(keeps m c t.val ∗ owes (c : Thread nD τ) 0 W)
      ⊢ wp frame (wpE (defs₀ (F := F)) Variants.none c none) Set.univ (bodyAt0 t) (fun _ => iprop(keeps m c (t.val + 1) ∗ ∃ W', owes (c : Thread nD τ) 0 W')) := by
  have hN : t.val < 16 := lt_of_lt_of_eq t.isLt (show cfg0.N = 16 from N_0)
  have hr : block c rM (retAll m c) (Ring.bk 16 t.val) = _ := block_ret c _ _
  have hl : block c lM (lgAll m c) (Ring.bk 16 t.val) = _ := block_lg c _ _
  unfold keeps
  iintro ⟨⟨Hg, Hx, Hn, Hr, Hl⟩, HW⟩
  by_cases hlast : t.val = 15
  · ihave Hx' := (readRing_last c xS xM cc0_scratch4 (V m c main_arg0) t.val (by omega) (by omega)) $$ Hx
    icases Hx' with ⟨Hx, Kx⟩
    ihave Hn' := (readRing_last c nS nM cc0_scratch5 (V m c main_v7) t.val (by omega) (by omega)) $$ Hn
    icases Hn' with ⟨Hn, Kn⟩
    ihave Hr' := (writeRing_last c rS rM cc0_scratch6 (retAll m c) t.val (by omega) (by omega)) $$ Hr
    icases Hr' with ⟨Hra, Hrf, Hri, Kr⟩
    ihave Hl' := (writeRing_last c lS lM cc0_scratch7 (lgAll m c) t.val (by omega) (by omega)) $$ Hl
    icases Hl' with ⟨Hla, Hlf, Hli, Kl⟩
    iapply (run_last c t (fun h => by have := (isFirst_iff t).mp h; omega) (fun h => by have := (hasNext_iff t).mp h; omega) ((hasPast_iff t).mpr (by omega)) ((isLast_iff t).mpr hlast)
      (V m c main_arg0) (V m c main_v7) (retAll m c) (lgAll m c) hr hl W _)
    isplitl [Hx]; · iexact Hx
    isplitl [Hn]; · iexact Hn
    isplitl [Hra]; · iexact Hra
    isplitl [Hrf]; · iexact Hrf
    isplitl [Hri]; · iexact Hri
    isplitl [Hla]; · iexact Hla
    isplitl [Hlf]; · iexact Hlf
    isplitl [Hli]; · iexact Hli
    isplitl [HW]; · iexact HW
    iintro ⟨Hx, Hn, Hr0, Hr1, Hr2, Hr3, Hr4, Hl0, Hl1, Hl2, Hl3, Hl4, HW⟩
    isplitr [HW]; swap; · iexact HW
    isplitl [Hg]; · iexact Hg
    isplitl [Hx Kx]; · iapply Kx; iexact Hx
    isplitl [Hn Kn]; · iapply Kn; iexact Hn
    isplitl [Hr0 Hr1 Hr2 Hr3 Hr4 Kr]
    · iapply Kr
      isplitl [Hr0 Hr1 Hr2]
      · isplitl [Hr0]; · iexact Hr0
        isplitl [Hr1]; · iexact Hr1
        iexact Hr2
      isplitl [Hr3]; · iexact Hr3
      iexact Hr4
    iapply Kl
    isplitl [Hl0 Hl1 Hl2]
    · isplitl [Hl0]; · iexact Hl0
      isplitl [Hl1]; · iexact Hl1
      iexact Hl2
    isplitl [Hl3]; · iexact Hl3
    iexact Hl4
  by_cases hpast : 2 ≤ t.val
  · ihave Hx' := (readRing_mid c xS xM cc0_scratch4 (V m c main_arg0) t.val (by omega) (by omega)) $$ Hx
    icases Hx' with ⟨Hx, Hx', Kx⟩
    ihave Hn' := (readRing_mid c nS nM cc0_scratch5 (V m c main_v7) t.val (by omega) (by omega)) $$ Hn
    icases Hn' with ⟨Hn, Hn', Kn⟩
    ihave Hr' := (writeRing_mid c rS rM cc0_scratch6 (retAll m c) t.val hpast (by omega)) $$ Hr
    icases Hr' with ⟨Hra, Hrf, Kr⟩
    ihave Hl' := (writeRing_mid c lS lM cc0_scratch7 (lgAll m c) t.val hpast (by omega)) $$ Hl
    icases Hl' with ⟨Hla, Hlf, Kl⟩
    iapply (run_mid c t (fun h => by have := (isFirst_iff t).mp h; omega) ((hasNext_iff t).mpr (by omega)) ((hasPast_iff t).mpr hpast) (fun h => hlast ((isLast_iff t).mp h))
      (V m c main_arg0) (V m c main_v7) (retAll m c) (lgAll m c) hr hl W _)
    isplitl [Hx]; · iexact Hx
    isplitl [Hx']; · iexact Hx'
    isplitl [Hn]; · iexact Hn
    isplitl [Hn']; · iexact Hn'
    isplitl [Hra]; · iexact Hra
    isplitl [Hrf]; · iexact Hrf
    isplitl [Hla]; · iexact Hla
    isplitl [Hlf]; · iexact Hlf
    isplitl [HW]; · iexact HW
    iintro ⟨Hx, Hx', Hn, Hn', Hr0, Hr1, Hl0, Hl1, HW⟩
    isplitr [HW]; swap; · iexact HW
    isplitl [Hg]; · iexact Hg
    isplitl [Hx Hx' Kx]
    · iapply Kx; isplitl [Hx]; · iexact Hx
      iexact Hx'
    isplitl [Hn Hn' Kn]
    · iapply Kn; isplitl [Hn]; · iexact Hn
      iexact Hn'
    isplitl [Hr0 Hr1 Kr]
    · iapply Kr; isplitl [Hr0]; · iexact Hr0
      iexact Hr1
    iapply Kl; isplitl [Hl0]; · iexact Hl0
    iexact Hl1
  ihave Hr' := (writeRing_start c rS rM cc0_scratch6 (retAll m c) t.val (by omega)) $$ Hr
  icases Hr' with ⟨Hra, Hrf, Kr⟩
  ihave Hl' := (writeRing_start c lS lM cc0_scratch7 (lgAll m c) t.val (by omega)) $$ Hl
  icases Hl' with ⟨Hla, Hlf, Kl⟩
  by_cases hfirst : t.val = 0
  · ihave Hx' := (readRing_first c xS xM cc0_scratch4 (V m c main_arg0) t.val hfirst) $$ Hx
    icases Hx' with ⟨Hx, Hx', Kx⟩
    ihave Hn' := (readRing_first c nS nM cc0_scratch5 (V m c main_v7) t.val hfirst) $$ Hn
    icases Hn' with ⟨Hn, Hn', Kn⟩
    iapply (run_first c t ((isFirst_iff t).mpr hfirst) ((hasNext_iff t).mpr (by omega)) (fun h => hpast ((hasPast_iff t).mp h)) (fun h => hlast ((isLast_iff t).mp h))
      (V m c main_arg0) (V m c main_v7) (retAll m c) (lgAll m c) hr hl W _)
    isplitl [Hx]; · iexact Hx
    isplitl [Hx']; · iexact Hx'
    isplitl [Hn]; · iexact Hn
    isplitl [Hn']; · iexact Hn'
    isplitl [Hra]; · iexact Hra
    isplitl [Hrf]; · iexact Hrf
    isplitl [Hla]; · iexact Hla
    isplitl [Hlf]; · iexact Hlf
    isplitl [HW]; · iexact HW
    iintro ⟨Hx, Hx', Hn, Hn', Hr, Hl, HW⟩
    isplitr [HW]; swap; · iexact HW
    isplitl [Hg]; · iexact Hg
    isplitl [Hx Hx' Kx]
    · iapply Kx; isplitl [Hx]; · iexact Hx
      iexact Hx'
    isplitl [Hn Hn' Kn]
    · iapply Kn; isplitl [Hn]; · iexact Hn
      iexact Hn'
    isplitl [Hr Kr]; · iapply Kr; iexact Hr
    iapply Kl; iexact Hl
  · ihave Hx' := (readRing_mid c xS xM cc0_scratch4 (V m c main_arg0) t.val (by omega) (by omega)) $$ Hx
    icases Hx' with ⟨Hx, Hx', Kx⟩
    ihave Hn' := (readRing_mid c nS nM cc0_scratch5 (V m c main_v7) t.val (by omega) (by omega)) $$ Hn
    icases Hn' with ⟨Hn, Hn', Kn⟩
    iapply (run_second c t (fun h => hfirst ((isFirst_iff t).mp h)) ((hasNext_iff t).mpr (by omega)) (fun h => hpast ((hasPast_iff t).mp h)) (fun h => hlast ((isLast_iff t).mp h))
      (V m c main_arg0) (V m c main_v7) (retAll m c) (lgAll m c) hr hl W _)
    isplitl [Hx]; · iexact Hx
    isplitl [Hx']; · iexact Hx'
    isplitl [Hn]; · iexact Hn
    isplitl [Hn']; · iexact Hn'
    isplitl [Hra]; · iexact Hra
    isplitl [Hrf]; · iexact Hrf
    isplitl [Hla]; · iexact Hla
    isplitl [Hlf]; · iexact Hlf
    isplitl [HW]; · iexact HW
    iintro ⟨Hx, Hx', Hn, Hn', Hr, Hl, HW⟩
    isplitr [HW]; swap; · iexact HW
    isplitl [Hg]; · iexact Hg
    isplitl [Hx Hx' Kx]
    · iapply Kx; isplitl [Hx]; · iexact Hx
      iexact Hx'
    isplitl [Hn Hn' Kn]
    · iapply Kn; isplitl [Hn]; · iexact Hn
      iexact Hn'
    isplitl [Hr Kr]; · iapply Kr; iexact Hr
    iapply Kl; iexact Hl

/-- No window: the obligation's conjunction over the windows is empty. -/
theorem no_windows {M : Type} [URA M] (Φ : Fin 0 → sProp M) : bigSep Finset.univ Φ = (BI.emp : sProp M) :=
  BI.bigSep_univ_eq_bigSepL [] (by decide) (by decide) Φ

theorem row_body (t : Fin cfg0.N) : defs₀ (F := F) .tc cfg0.body (cfg0.bodyArgs t (cfg0.slots t)) = bodyAt0 t := by
  unfold defs₀; rw [Defs.onTc_tc]

theorem owed_before (c : Dev nD) (t : Fin cfg0.N) : (dats m 0 c).owed t.castSucc = 0 := rfl
theorem owed_after (c : Dev nD) (t : Fin cfg0.N) : (dats m 0 c).owed t.succ = 0 := rfl

theorem point_done (c : Dev nD) (t : Fin cfg0.N) :
    iprop(keeps m c (t.val + 1) ∗ ∃ W, owes (c : Thread nD τ) 0 W)
      ⊢ iprop(keeps m c (t.val + 1) ∗ (∃ W, ⌜↑W ⊆ (dats m 0 c).bound () t.succ⌝ ∗ owes (c : Thread nD τ) 0 W) ∗ BI.emp) := by
  iintro ⟨HK, ⟨%W, HW⟩⟩
  isplitl [HK]; · iexact HK
  isplitl [HW]
  · iexists W; isplitr; · ipureintro; exact fun _ _ => Or.inl trivial
    iexact HW
  iempintro

theorem body_keeps (c : Dev nD) : Pipeline.BodyObligation (dats (F := F) m 0 c) (defs₀ (F := F)) Variants.none () Set.univ := fun t => by
  rw [no_windows, no_windows, row_body, keeps_before m c t, keeps_after m c t]
  unfold Pipeline.Dat.owesAt Pipeline.owesWithin
  rw [owed_before, owed_after]
  iintro ⟨HK, ⟨%W, -, HW⟩, -⟩
  iapply (triple_restated (point_keeps m c t W) rfl .rfl fun _ => point_done m c t)
  isplitl [HK]; · iexact HK
  iexact HW

/-! ## What the launch hands over and takes back -/

def osem : Fin 8 → SemLoc sig := ![SemLoc.dma 0, SemLoc.dma 1, SemLoc.dma 2, SemLoc.dma 3, SemLoc.dma 4, SemLoc.dma 5, SemLoc.dma 6, SemLoc.dma 7]
theorem osem_facts : Pipeline.OwnSemFacts cfg0.spec osem := by decide
def reads : Finset (Ref sig .tc) := {main_arg0, main_v7}
def writes : Finset (Ref sig .tc) := {main_v8_0, main_v8_1}
theorem reads_sub : reads ⊆ Pipeline.restRefs sig cfg0.spec := by decide
theorem writes_sub : writes ⊆ Pipeline.restRefs sig cfg0.spec \ reads := by decide

/-- The buffers of a core with the two results replaced. -/
def withResults (c : Dev nD) (b : Ref sig .tc) : Buf (Elt F) ((c : Thread nD τ).loc b) :=
  Function.update (Function.update (V m c) main_v8_0 (retAll m c)) main_v8_1 (lgAll m c) b

theorem sems_eq (c : Dev nD) :
    (Pipeline.ownSems0 (Ix := Unit) (Name := ℕ) (U := Pipeline.UD sig nD τ) (Lvl := ℕ) (Val := Elt F) (τ := τ) osem c : sProp 𝕄)
      = iprop(cellP c cc0_scratch4 0 ∗ cellP c cc0_scratch4 1 ∗ cellP c cc0_scratch5 0 ∗ cellP c cc0_scratch5 1
          ∗ cellP c cc0_scratch6 0 ∗ cellP c cc0_scratch6 1 ∗ cellP c cc0_scratch7 0 ∗ cellP c cc0_scratch7 1) := by
  rw [Pipeline.ownSems0_eq_of_list c osem [0, 1, 2, 3, 4, 5, 6, 7] (by decide) (by decide)]
  simp only [cellP, cellAt_x.1, cellAt_x.2, cellAt_n.1, cellAt_n.2, cellAt_r.1, cellAt_r.2, cellAt_l.1, cellAt_l.2]
  rfl

theorem reads_eq (c : Dev nD) :
    (bigSep reads (fun b => ((c : Thread nD τ).loc b) ↦{fullShare} V m c b) : sProp 𝕄)
      = iprop((xM.view.loc (c : Thread nD τ) ↦{fullShare} V m c main_arg0) ∗ nM.view.loc (c : Thread nD τ) ↦{fullShare} V m c main_v7) := by
  rw [BI.bigSep_eq_bigSepL_of_eq [main_arg0, main_v7] (by decide) (by decide)]; rfl
theorem writes_eq (c : Dev nD) (f : (b : Ref sig .tc) → Buf (Elt F) ((c : Thread nD τ).loc b)) :
    (Pipeline.routed writes c f : sProp 𝕄)
      = iprop((rM.view.loc (c : Thread nD τ) ↦{fullShare} f main_v8_0) ∗ lM.view.loc (c : Thread nD τ) ↦{fullShare} f main_v8_1) := by
  unfold Pipeline.routed; rw [BI.bigSep_eq_bigSepL_of_eq [main_v8_0, main_v8_1] (by decide) (by decide)]; rfl

theorem withResults_ret (c : Dev nD) : withResults m c main_v8_0 = retAll m c := by
  unfold withResults; rw [Function.update_of_ne (by decide), Function.update_self]
theorem withResults_lg (c : Dev nD) : withResults m c main_v8_1 = lgAll m c := by
  unfold withResults; rw [Function.update_self]

theorem launch_in (c : Dev nD) : Pipeline.ΦDRG osem cfg0.spec reads writes (V m) (V m) c ⊢ (dats m 0 c).Φ 0 := by
  rw [Pipeline.ΦDRG_eq, scopedRest0_eq, sems_eq, reads_eq, writes_eq, show (dats m 0 c).Φ 0 = keeps m c 0 from rfl]
  unfold keeps
  iintro ⟨⟨Hx, Hn, Hr, Hl⟩, Hg, ⟨Hx0, Hx1, Hn0, Hn1, Hr0, Hr1, Hl0, Hl1⟩, ⟨Hxw, Hnw⟩, ⟨Hrw, Hlw⟩⟩
  isplitl [Hg]; · iexact Hg
  isplitl [Hx Hx0 Hx1 Hxw]
  · iapply (readRing_in c xS xM cc0_scratch4 (V m c main_arg0) (Memref.isWhole_whole _))
    isplitl [Hx]; · iexact Hx
    isplitl [Hx0 Hx1]
    · isplitl [Hx0]; · iexact Hx0
      iexact Hx1
    iexact Hxw
  isplitl [Hn Hn0 Hn1 Hnw]
  · iapply (readRing_in c nS nM cc0_scratch5 (V m c main_v7) (Memref.isWhole_whole _))
    isplitl [Hn]; · iexact Hn
    isplitl [Hn0 Hn1]
    · isplitl [Hn0]; · iexact Hn0
      iexact Hn1
    iexact Hnw
  isplitl [Hr Hr0 Hr1 Hrw]
  · iapply (writeRing_in c rS cc0_scratch6 rM (retAll m c) (Memref.isWhole_whole _) (Memref.isWhole_whole _) (V m c main_v8_0))
    isplitl [Hr]; · iexact Hr
    isplitl [Hr0 Hr1]
    · isplitl [Hr0]; · iexact Hr0
      iexact Hr1
    iexact Hrw
  iapply (writeRing_in c lS cc0_scratch7 lM (lgAll m c) (Memref.isWhole_whole _) (Memref.isWhole_whole _) (V m c main_v8_1))
  isplitl [Hl]; · iexact Hl
  isplitl [Hl0 Hl1]
  · isplitl [Hl0]; · iexact Hl0
    iexact Hl1
  iexact Hlw

theorem launch_out (c : Dev nD) : (dats m 0 c).Φ (Fin.last cfg0.N) ⊢ Pipeline.ΦDRG osem cfg0.spec reads writes (V m) (withResults m) c := by
  rw [Pipeline.ΦDRG_eq, scopedRest0_eq, sems_eq, reads_eq, writes_eq, withResults_ret, withResults_lg, show (dats m 0 c).Φ (Fin.last cfg0.N) = keeps m c grid0.N from rfl]
  unfold keeps
  rw [show grid0.N = 16 by rw [N_0]]
  iintro ⟨Hg, Hx, Hn, Hr, Hl⟩
  ihave Hx' := (readRing_out c xS xM cc0_scratch4 (V m c main_arg0) (Memref.isWhole_whole _)) $$ Hx
  icases Hx' with ⟨Hx, ⟨Hx0, Hx1⟩, Hxw⟩
  ihave Hn' := (readRing_out c nS nM cc0_scratch5 (V m c main_v7) (Memref.isWhole_whole _)) $$ Hn
  icases Hn' with ⟨Hn, ⟨Hn0, Hn1⟩, Hnw⟩
  ihave Hr' := (writeRing_out c rS cc0_scratch6 rM (retAll m c) (Memref.isWhole_whole _) (Memref.isWhole_whole _)) $$ Hr
  icases Hr' with ⟨Hr, ⟨Hr0, Hr1⟩, Hrw⟩
  ihave Hl' := (writeRing_out c lS cc0_scratch7 lM (lgAll m c) (Memref.isWhole_whole _) (Memref.isWhole_whole _)) $$ Hl
  icases Hl' with ⟨Hl, ⟨Hl0, Hl1⟩, Hlw⟩
  isplitl [Hx Hn Hr Hl]
  · isplitl [Hx]; · iexact Hx
    isplitl [Hn]; · iexact Hn
    isplitl [Hr]; · iexact Hr
    iexact Hl
  isplitl [Hg]; · iexact Hg
  isplitl [Hx0 Hx1 Hn0 Hn1 Hr0 Hr1 Hl0 Hl1]
  · isplitl [Hx0]; · iexact Hx0
    isplitl [Hx1]; · iexact Hx1
    isplitl [Hn0]; · iexact Hn0
    isplitl [Hn1]; · iexact Hn1
    isplitl [Hr0]; · iexact Hr0
    isplitl [Hr1]; · iexact Hr1
    isplitl [Hl0]; · iexact Hl0
    iexact Hl1
  isplitl [Hxw Hnw]
  · isplitl [Hxw]; · iexact Hxw
    iexact Hnw
  isplitl [Hrw]; · iexact Hrw
  iexact Hlw

/-! ## The run -/

set_option maxHeartbeats 800000 in
/-- The program up to the launch. -/
theorem before_launch : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1] (by simp only [List.Forall]; exact ⟨hostOps0_sub, hostOps0_1_sub⟩)
    (by simp only [List.Forall]; exact ⟨hostOps0_fresh, hostOps0_1_fresh⟩) main_chain

set_option backward.isDefEq.respectTransparency.types false in
theorem run : θ_run defs (onTc (τ := τ) (main (F := F))) (s₀ m ρ) (fun r => Pipeline.FramePostRG cfgs (dats m) 0 writes (V m) (withResults m) r ∧ r.2.sem = fun _ => 0) :=
  Pipeline.θ_run_frame_dmaRG (Q' := _) cfgs (dats m) (0 : Fin 1) launch0 osem defs₀ Variants.none osem_facts reads writes reads_sub writes_sub m ρ main
    (hbody := fun c => (body_keeps m c).loose) (hshare := fun c => (dats m 0 c).share_full fun _ => rfl) (howed := fun _ _ => rfl) (V := V m)
    (hmain := before_launch m) (hA := A_eq m) (G := withResults m) (hin := launch_in m) (hout := launch_out m)

/-- Every run ends with the argument unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1.1 c).2 main_arg0 (by decide)).trans (V_main_arg0 m c), h.2⟩) (run m ρ)

/-- Every run ends with the two results at what the points compute, block by block, and the argument unchanged. -/
theorem results : θ_run defs (onTc (τ := τ) (main (F := F))) ⟨m, fun _ => 0, ρ⟩ (fun r => ∀ c : Dev nD,
      r.2.mem ((c.tc : Thread nD τ).loc main_v8_0) = retAll m c
      ∧ r.2.mem ((c.tc : Thread nD τ).loc main_v8_1) = lgAll m c
      ∧ r.2.mem ((c.tc : Thread nD τ).loc main_arg0) = m ((c.tc : Thread nD τ).loc main_arg0)) :=
  (θ_run defs _ _).mono (fun _ h c =>
    ⟨(h.1.2 c main_v8_0 (by decide)).trans (withResults_ret m c), (h.1.2 c main_v8_1 (by decide)).trans (withResults_lg m c),
      ((h.1.1 c).2 main_arg0 (by decide)).trans (V_main_arg0 m c)⟩) (run m ρ)

end Cert.KernelIdeal.Hand

end
end
-- ==== Proof.Same.lean ====
/- The program as printed and the program read at exact numbers are one text: what is shown of the one for every
   reading of the floats is shown of the other. -/
module

public import proofs.«01_k».proof.Proof.Gen.Kernel.Launch
public import proofs.«01_k».proof.Proof.Launch

@[expose] public section

noncomputable section

namespace Cert.Kernel.Hand

open Idealize.ShloMosaic Idealize.SL.Sem
open Cert.Kernel Cert.Kernel.Gen

variable {F : FTy → Type} [FloatOps F]

set_option maxRecDepth 16384
set_option maxHeartbeats 16000000

/-- The two printed bodies are one. -/
theorem main_same (c : Dev nD) : Cert.Kernel.main (F := F) c = Cert.KernelIdeal.main (F := F) c :=
  Eq.refl (Cert.Kernel.main (F := F) c)

variable (m : (ℓ : Loc nD τ sig) → Buf (Elt F) ℓ) (ρ : Dev nD → PrngReg)

/-- The kernel ends, its argument as launched and every counter back at zero. -/
theorem quiescent : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 := by
  have h := Cert.KernelIdeal.Hand.quiescent (F := F) m ρ
  rw [show Cert.KernelIdeal.main (F := F) = Cert.Kernel.main (F := F) from funext fun c => (main_same c).symm] at h
  exact h

end Cert.Kernel.Hand

end

end
-- ==== Proof.Lines.lean ====
/-
  The reference as a line of host operations. `main` is operations and calls of functions whose bodies are again operations
  and calls; the lists below are read off these bodies, one list for each body or part of a body, and joined in the order of
  the calls.
-/
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

set_option maxRecDepth 16384

noncomputable section

namespace Cert.ReferenceIdeal.Hand

open Idealize.ShloMosaic Idealize.ShloMosaic.TcCoe Idealize.ShloMosaic.StableHlo
open Idealize.SL.Sem

local instance : Facts := Gen.facts

variable {F : FTy → Type} [FloatOps F]

/-- A program of the reference. -/
abbrev Body (F : FTy → Type) [FloatOps F] :=
  Prog (TpuEff nD τ sig (Elt F) (Pipeline.Sig Λ₀ (Fin 0) fun p => (pcfgs (F := F) p).Adm) .tc) PUnit

/-- An operation touches ordinary buffers only and makes none. -/
abbrev Tame (op : HloOp τ sig (Elt F)) : Prop := op.bufs ⊆ tcRefs τ sig ∧ op.fresh = ∅

/-- A program runs these operations in this order, and each touches ordinary buffers only. -/
def Runs (p : Body F) (ops : List (HloOp τ sig (Elt F))) : Prop := IsSeq p ops ∧ ops.Forall Tame

/-- The operations that a program runs, in their order. -/
abbrev Line (p : Body F) := {ops : List (HloOp τ sig (Elt F)) // Runs p ops}

theorem runs_nil : Runs (pure ⟨⟩ : Body F) [] := ⟨IsSeq.nil, trivial⟩

theorem runs_cons {op : HloOp τ sig (Elt F)} {k : Body F} {ops : List (HloOp τ sig (Elt F))} (ht : Tame op) (h : Runs k ops) :
    Runs ((hlo rfl op fun _ => .ret (⟨⟩ : PUnit)) >>= fun _ => k) (op :: ops) :=
  ⟨IsSeq.cons h.1, (List.forall_cons _ _ _).mpr ⟨ht, h.2⟩⟩

/-- A program of one operation. -/
theorem runs_one {op : HloOp τ sig (Elt F)} (ht : Tame op) : Runs (hlo rfl op fun _ => .ret (⟨⟩ : PUnit) : Body F) [op] := ⟨rfl, ht⟩

/-- One program after another. -/
theorem runs_both {p k : Body F} {l l' : List (HloOp τ sig (Elt F))} (h : Runs p l) (h' : Runs k l') :
    Runs (p >>= fun _ => k) (l ++ l') := by
  refine ⟨?_, ?_⟩
  · have e := h.1
    have e' := h'.1
    unfold IsSeq at *; rw [e, e', seq_append]
  · have e := h.2
    have e' := h'.2
    rw [List.forall_iff_forall_mem] at *
    intro op hop
    rcases List.mem_append.mp hop with hm | hm
    · exact e op hm
    · exact e' op hm

theorem tame_nullary {y : Ref sig .tc} (v : y.ty.Contents (Elt F)) (hy) : Tame (nullary y v hy : HloOp τ sig (Elt F)) := ⟨nullary_bufs_sub .., rfl⟩
theorem tame_unary {x y : Ref sig .tc} (f : x.ty.Contents (Elt F) → y.ty.Contents (Elt F)) (hx hy) :
    Tame (unary x y f hx hy : HloOp τ sig (Elt F)) := ⟨unary_bufs_sub .., rfl⟩
theorem tame_binary {a b y : Ref sig .tc} (f : a.ty.Contents (Elt F) → b.ty.Contents (Elt F) → y.ty.Contents (Elt F)) (ha hb hy) :
    Tame (binary a b y f ha hb hy : HloOp τ sig (Elt F)) := ⟨binary_bufs_sub .., rfl⟩
theorem tame_reshape {x y : Ref sig .tc} (he hn hx hy) : Tame (reshape x y he hn hx hy : HloOp τ sig (Elt F)) := ⟨reshape_bufs_sub .., rfl⟩

section
variable (a0 a1 : TRef sig ⟨S_, .i32⟩) (a2 a3 : TRef sig ⟨S128x100000, .i32⟩) (φ : fn_threefry2x32.Bufs)

/-- The first sixty operations of the generator's mixing. -/
def mix0 : Line (F := F) (fn_threefry2x32.body_part0 a0 a1 a2 a3 φ) := by
  apply Subtype.mk
  case property =>
    unfold fn_threefry2x32.body_part0
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)

/-- The next sixty. -/
def mix1 : Line (F := F) (fn_threefry2x32.body_part1 a0 a1 a2 a3 φ) := by
  apply Subtype.mk
  case property =>
    unfold fn_threefry2x32.body_part1
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)

/-- The next sixty. -/
def mix2 : Line (F := F) (fn_threefry2x32.body_part2 a0 a1 a2 a3 φ) := by
  apply Subtype.mk
  case property =>
    unfold fn_threefry2x32.body_part2
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)

/-- The rest. -/
def mix3 : Line (F := F) (fn_threefry2x32.body_part3 a0 a1 a2 a3 φ) := by
  apply Subtype.mk
  case property =>
    unfold fn_threefry2x32.body_part3
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)

/-- The whole mixing. -/
def mix : Line (F := F) (fn_threefry2x32.body a0 a1 a2 a3 φ) :=
  ⟨(mix0 a0 a1 a2 a3 φ).1 ++ ((mix1 a0 a1 a2 a3 φ).1 ++ ((mix2 a0 a1 a2 a3 φ).1 ++ (mix3 a0 a1 a2 a3 φ).1)),
    runs_both (mix0 a0 a1 a2 a3 φ).2 (runs_both (mix1 a0 a1 a2 a3 φ).2 (runs_both (mix2 a0 a1 a2 a3 φ).2 (mix3 a0 a1 a2 a3 φ).2))⟩

end

/-- The uniform numbers. -/
def draw (a0 : TRef sig ⟨S2, .i32⟩) (a1 a2 : TRef sig ⟨S_, .f32⟩) (φ : fn_uniform.Bufs) :
    Line (F := F) (fn_uniform.body a0 a1 a2 φ) := by
  apply Subtype.mk
  case property =>
    unfold fn_uniform.body
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)
      | apply runs_both (mix _ _ _ _ _).2

/-- The noise. -/
def noise (a0 : TRef sig ⟨S2, .i32⟩) (φ : fn_gumbel.Bufs) : Line (F := F) (fn_gumbel.body a0 φ) := by
  apply Subtype.mk
  case property =>
    unfold fn_gumbel.body
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)
      | apply runs_both (draw _ _ _ _).2

/-- The place of a row's top. -/
def place (a0 : TRef sig ⟨S128x100000, .f32⟩) (φ : fn_argmax.Bufs) : Line (F := F) (fn_argmax.body a0 φ) := by
  apply Subtype.mk
  case property =>
    unfold fn_argmax.body
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)

/-- The mark at a place. -/
def mark (a0 : TRef sig ⟨S128, .i32⟩) (φ : fn_one_hot.Bufs) : Line (F := F) (fn_one_hot.body a0 φ) := by
  apply Subtype.mk
  case property =>
    unfold fn_one_hot.body
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | exact runs_one (tame_binary ..)

/-- The whole reference. -/
def whole (d : Dev nD) : Line (F := F) (main d) := by
  apply Subtype.mk
  case property =>
    unfold main
    repeat
      first
      | apply runs_cons
        focus
          first
          | with_reducible exact tame_unary ..
          | with_reducible exact tame_binary ..
          | with_reducible exact tame_nullary ..
          | with_reducible exact tame_reshape ..
          | exact ⟨quaternary_bufs_sub .., rfl⟩
      | exact runs_nil
      | apply runs_both (noise _ _).2
      | apply runs_both (place _ _).2
      | apply runs_both (mark _ _).2

end Cert.ReferenceIdeal.Hand

end
-- ==== Proof.Plain.lean ====
/-
  The run of the reference: its operations touch ordinary buffers only and never write its argument, so it ends, with the
  argument as launched and every buffer at what the operations leave there.
-/
module

public import proofs.«01_k».proof.Proof.Lines
public import Idealize.ShloMosaic.Adequacy
public import Idealize.ShloMosaic.Init

@[expose] public section

set_option maxRecDepth 16384

noncomputable section

namespace Cert.ReferenceIdeal.Hand

open Idealize.ShloMosaic Idealize.ShloMosaic.TcCoe Idealize.ShloMosaic.StableHlo
open Idealize.SL.Sem

local instance : Facts := Gen.facts

variable {F : FTy → Type} [FloatOps F]

/-- The buffers of the one call of the generator's mixing. -/
abbrev φmix : fn_threefry2x32.Bufs := main_call0.call0.call0

/-- No operation of a list writes the argument. -/
def Spares (ops : List (HloOp τ sig (Elt F))) : Prop := ops.Forall fun op => Proc.devRef (τ := τ) .tc main_arg0 ∉ op.writes

theorem spares_nil : Spares ([] : List (HloOp τ sig (Elt F))) := trivial

theorem spares_cons {op : HloOp τ sig (Elt F)} {ops : List (HloOp τ sig (Elt F))} {y : Ref sig .tc}
    (hw : op.writes = {Proc.devRef .tc y}) (hy : main_arg0 ≠ y) (h : Spares ops) : Spares (op :: ops) := by
  refine (List.forall_cons _ _ _).mpr ⟨?_, h⟩
  rw [hw, Finset.mem_singleton]
  exact devRef_ne_of_ne hy

theorem spares_append {l l' : List (HloOp τ sig (Elt F))} (h : Spares l) (h' : Spares l') : Spares (l ++ l') := by
  unfold Spares at *
  rw [List.forall_iff_forall_mem] at *
  intro op hop
  rcases List.mem_append.mp hop with hm | hm
  · exact h op hm
  · exact h' op hm

section
variable (a0 a1 : TRef sig ⟨S_, .i32⟩) (a2 a3 : TRef sig ⟨S128x100000, .i32⟩)

theorem mix0_spares : Spares (mix0 (F := F) a0 a1 a2 a3 φmix).1 := by
  simp only [mix0]
  repeat refine spares_cons rfl (by decide) ?_
  exact spares_nil

theorem mix1_spares : Spares (mix1 (F := F) a0 a1 a2 a3 φmix).1 := by
  simp only [mix1]
  repeat refine spares_cons rfl (by decide) ?_
  exact spares_nil

theorem mix2_spares : Spares (mix2 (F := F) a0 a1 a2 a3 φmix).1 := by
  simp only [mix2]
  repeat refine spares_cons rfl (by decide) ?_
  exact spares_nil

theorem mix3_spares : Spares (mix3 (F := F) a0 a1 a2 a3 φmix).1 := by
  simp only [mix3]
  repeat refine spares_cons rfl (by decide) ?_
  exact spares_nil

theorem mix_spares : Spares (mix (F := F) a0 a1 a2 a3 φmix).1 :=
  spares_append (mix0_spares a0 a1 a2 a3) (spares_append (mix1_spares a0 a1 a2 a3)
    (spares_append (mix2_spares a0 a1 a2 a3) (mix3_spares a0 a1 a2 a3)))

end

theorem draw_spares (a0 : TRef sig ⟨S2, .i32⟩) (a1 a2 : TRef sig ⟨S_, .f32⟩) : Spares (draw (F := F) a0 a1 a2 main_call0.call0).1 := by
  simp only [draw]
  repeat refine spares_cons rfl (by decide) ?_
  exact spares_nil

theorem noise_spares (a0 : TRef sig ⟨S2, .i32⟩) : Spares (noise (F := F) a0 main_call0).1 := by
  simp only [noise]
  repeat refine spares_cons rfl (by decide) ?_
  exact spares_nil

theorem place_spares (a0 : TRef sig ⟨S128x100000, .f32⟩) : Spares (place (F := F) a0 main_call1).1 := by
  simp only [place]
  repeat refine spares_cons rfl (by decide) ?_
  exact spares_nil

theorem mark_spares (a0 : TRef sig ⟨S128, .i32⟩) : Spares (mark (F := F) a0 main_call2).1 := by
  simp only [mark]
  repeat refine spares_cons rfl (by decide) ?_
  exact spares_nil

theorem whole_spares (d : Dev nD) : Spares (whole (F := F) d).1 := by
  simp only [whole]
  repeat refine spares_cons rfl (by decide) ?_
  repeat refine spares_cons rfl (by decide) ?_
  exact spares_nil

variable (m : (ℓ : Loc nD τ sig) → Buf (Elt F) ℓ) (ρ : Dev nD → PrngReg)

/-- The reference leaves in every buffer what its operations leave there. -/
theorem run : θ_run (defs (F := F)) (onTc (τ := τ) main) ⟨m, fun _ => 0, ρ⟩ fun r =>
    ∀ (d : Dev nD) (b : Ref sig .tc), r.2.mem ((d.tc : Thread nD τ).loc b) = after (whole d).1 (launchContents m d) (Proc.devRef .tc b) :=
  run_seq (by decide) (by decide) defs main (fun d => (whole d).1) (fun d => (whole d).2.1)
    (fun d => (whole d).2.2.imp fun _ h => h.1) m ρ
    (fun d op hop => (List.forall_iff_forall_mem.mp (whole d).2.2 op hop).2)

/-- The argument is as launched. -/
theorem whole_arg (d : Dev nD) : after (whole (F := F) d).1 (launchContents m d) (Proc.devRef .tc main_arg0) = m ((d.tc : Thread nD τ).loc main_arg0) :=
  after_of_forall_not_mem (b := Proc.devRef .tc main_arg0) _ _ (List.forall_iff_forall_mem.mp (whole_spares d))

/-- The reference ends, its argument as launched; it has no counter. -/
theorem quiescent : θ_run (defs (F := F)) (onTc (τ := τ) main) ⟨m, fun _ => 0, ρ⟩ fun r =>
    (∀ c : Dev nD, r.2.mem ((c.tc : Thread nD τ).loc main_arg0) = m ((c.tc : Thread nD τ).loc main_arg0)) ∧ r.2.sem = fun _ => 0 :=
  θ_run_mono (run m ρ) fun r h =>
    ⟨fun c => (h c main_arg0).trans (whole_arg m c), funext fun g => by
      obtain ⟨_, sm⟩ := g
      rcases sm with ⟨s⟩ | ⟨s⟩
      · exact s.elim0
      · exact s.elim0⟩

end Cert.ReferenceIdeal.Hand

end
-- ==== Proof.Row.lean ====
/- One row in extended reals: its greatest number, the logarithm of its sum of exponentials with and without the greatest
   number taken off first, and the softmax of a row whose greatest number stands once. -/
module

public import Idealize.ShloMosaic.PureOps.Ideal

@[expose] public section

noncomputable section

namespace Cert.Row

open Idealize.ShloMosaic
open scoped BigOperators

variable {ι : Type} [Fintype ι]

/-- The greatest number of a row. -/
def top (x : ι → EReal) : EReal := Finset.univ.fold max ⊥ x

theorem le_top (x : ι → EReal) (i : ι) : x i ≤ top x := (Finset.le_fold_max _).2 (Or.inr ⟨i, Finset.mem_univ i, le_rfl⟩)

theorem top_le {x : ι → EReal} {a : EReal} (h : ∀ i, x i ≤ a) : top x ≤ a := (Finset.fold_max_le _).2 ⟨bot_le, fun i _ => h i⟩

theorem top_eq {x : ι → EReal} {i : ι} (h : ∀ j, x j ≤ x i) : top x = x i := le_antisymm (top_le h) (le_top x i)

/-- The greatest number is one of the row, where the row holds any. -/
theorem top_attained [Nonempty ι] (x : ι → EReal) : ∃ i, top x = x i :=
  let ⟨i, h⟩ := Finite.exists_max x
  ⟨i, top_eq h⟩

theorem coe_sum (s : Finset ι) (w : ι → ℝ) : ((∑ i ∈ s, w i : ℝ) : EReal) = ∑ i ∈ s, (w i : EReal) := by
  classical
  induction s using Finset.induction_on with
  | empty => simp
  | insert a s h ih => rw [Finset.sum_insert h, Finset.sum_insert h, EReal.coe_add, ih]

/-- The exponential of a number that is not plus infinity, as a real. -/
def weight (a : EReal) : ℝ := if a = ⊥ then 0 else Real.exp a.toReal

theorem weight_nonneg (a : EReal) : 0 ≤ weight a := by
  unfold weight; split_ifs
  · exact le_rfl
  · exact (Real.exp_pos _).le

theorem weight_coe (r : ℝ) : weight r = Real.exp r := by simp [weight]

theorem exp_eq {a : EReal} (h : a ≠ ⊤) : Ideal.exp a = (weight a : EReal) := by
  induction a with
  | bot => simp [weight]
  | coe r => simp [weight]
  | top => exact absurd rfl h

/-- A real taken off scales the exponential. -/
theorem exp_sub {a : EReal} (h : a ≠ ⊤) (r : ℝ) : Ideal.exp (a - r) = ((weight a * Real.exp (-r) : ℝ) : EReal) := by
  induction a with
  | bot => simp [weight, EReal.bot_sub]
  | coe s => rw [← EReal.coe_sub, Ideal.exp_coe, weight_coe, ← Real.exp_add, sub_eq_add_neg]
  | top => exact absurd rfl h

theorem weight_lt {a b : EReal} (hb : b ≠ ⊤) (h : a < b) : weight a < weight b := by
  induction b with
  | top => exact absurd rfl hb
  | bot => exact absurd h not_lt_bot
  | coe s =>
    rw [weight_coe]
    induction a with
    | bot => simpa [weight] using Real.exp_pos s
    | coe r => rw [weight_coe]; exact Real.exp_lt_exp.mpr (EReal.coe_lt_coe_iff.mp h)
    | top => exact absurd h not_top_lt

theorem sum_weight_pos {x : ι → EReal} {i : ι} (h : x i ≠ ⊥) : 0 < ∑ j, weight (x j) :=
  Finset.sum_pos' (fun j _ => weight_nonneg (x j)) ⟨i, Finset.mem_univ i, by unfold weight; rw [if_neg h]; exact Real.exp_pos _⟩

theorem log_pos {r : ℝ} (h : 0 < r) : Ideal.log r = (Real.log r : EReal) := by rw [Ideal.log_coe, if_neg (not_le.mpr h)]

/-- A row without plus infinity, not all minus infinity: the logarithm of its sum of exponentials is a real, and it is the
    same with the greatest number taken off first and put back. -/
theorem logsum {x : ι → EReal} (hx : ∀ j, x j ≠ ⊤) {i : ι} (hi : x i ≠ ⊥) :
    ∃ L : ℝ, Ideal.log (∑ j, Ideal.exp (x j)) = (L : EReal) ∧ top x + Ideal.log (∑ j, Ideal.exp (x j - top x)) = (L : EReal) := by
  haveI : Nonempty ι := ⟨i⟩
  obtain ⟨k, hk⟩ := top_attained x
  have hbot : top x ≠ ⊥ := fun h => hi (le_bot_iff.mp (h ▸ le_top x i))
  have htop : top x ≠ ⊤ := hk ▸ hx k
  obtain ⟨M, hM⟩ : ∃ M : ℝ, top x = (M : EReal) := ⟨(top x).toReal, (EReal.coe_toReal htop hbot).symm⟩
  have hS := sum_weight_pos hi
  refine ⟨Real.log (∑ j, weight (x j)), ?_, ?_⟩
  · rw [Finset.sum_congr rfl fun j _ => exp_eq (hx j), ← coe_sum, log_pos hS]
  · rw [hM, Finset.sum_congr rfl fun j _ => exp_sub (hx j) M, ← coe_sum, ← Finset.sum_mul,
      log_pos (mul_pos hS (Real.exp_pos _)), Real.log_mul hS.ne' (Real.exp_pos _).ne', Real.log_exp, ← EReal.coe_add]
    congr 1; ring

/-- A row whose greatest number stands once: the softmax is real, and greatest at the same place. -/
theorem softmax {g : ι → EReal} {i : ι} (hi : ∀ j, j ≠ i → g j < g i) (ht : g i ≠ ⊤) (hb : g i ≠ ⊥) :
    ∃ y : ι → ℝ, (∀ j, Ideal.div (Ideal.exp (g j - top g)) (∑ k, Ideal.exp (g k - top g)) = (y j : EReal)) ∧ ∀ j, j ≠ i → y j < y i := by
  have hle : ∀ j, g j ≤ g i := fun j => by
    by_cases h : j = i
    · rw [h]
    · exact (hi j h).le
  have hg : ∀ j, g j ≠ ⊤ := fun j h => ht (top_le_iff.mp (h ▸ hle j))
  obtain ⟨G, hG⟩ : ∃ G : ℝ, g i = (G : EReal) := ⟨(g i).toReal, (EReal.coe_toReal ht hb).symm⟩
  have hZ : 0 < ∑ k, weight (g k) * Real.exp (-G) := by
    rw [← Finset.sum_mul]; exact mul_pos (sum_weight_pos hb) (Real.exp_pos _)
  refine ⟨fun j => weight (g j) * Real.exp (-G) / ∑ k, weight (g k) * Real.exp (-G), fun j => ?_, fun j h => ?_⟩
  · rw [top_eq hle, hG, Finset.sum_congr rfl fun k _ => exp_sub (hg k) G, ← coe_sum, exp_sub (hg j) G, Ideal.div_coe hZ.ne', ← EReal.coe_mul]
    congr 1; ring
  · exact div_lt_div_of_pos_right (mul_lt_mul_of_pos_right (weight_lt ht (hi j h)) (Real.exp_pos _)) hZ

/-- A real put on, then another taken off, changes no order. -/
theorem shift_lt {a b : EReal} {r s L : ℝ} (h : a + r < b + s) : a - L + r < b - L + s := by
  have e : ∀ (c : EReal) (t : ℝ), c - L + t = c + t + ((-L : ℝ) : EReal) := fun c t => by
    rw [sub_eq_add_neg, ← EReal.coe_neg, add_right_comm]
  rw [e, e]; exact EReal.add_lt_add_right_coe h _

end Cert.Row

end

end
-- ==== Proof.Reads.lean ====
/- The array operations that go along or across the rows of 128 by 100000 numbers, read at one entry; and the running search
   for the greatest, which ends at the greatest where that stands once. -/
module

public import proofs.«01_k».proof.Proof.Row
public import Idealize.ShloMosaic.PureOps.Reduce
public import Idealize.ShloMosaic.PureOps.Ideal.Laws
public import Idealize.ShloMosaic.Lib.Pipeline.Value
public import Idealize.ShloMosaic.Lib.Pointwise.Index
public import Idealize.ShloMosaic.Lib.IdealHost

@[expose] public section

noncomputable section

namespace Cert.Row

open Idealize.ShloMosaic
open scoped BigOperators

/-- The shapes of the whole array, of a number for each row, and of one number. -/
abbrev Full : Shape := ⟨2, ![128, 100000]⟩
abbrev Rows : Shape := ⟨1, ![128]⟩
abbrev One : Shape := ⟨0, ![]⟩

/-- One row of the array. -/
def row {α : Type} (x : Full.Idx → α) (r : Fin 128) : Fin 100000 → α := fun k => x (ix2 r k)

theorem reduces : Full.Reduces [1] Rows := by decide

theorem lift_eq (j : Rows.Idx) (k : Fin 100000) : reduces.lift j k = ix2 (j 0) k := by
  funext a
  refine Fin.ext ?_
  match a with
  | 0 => rfl
  | 1 => rfl

theorem minus_inf : (Ideal.ofBits .f32 0xFF800000#32 : EReal) = ⊥ := by
  simp [Ideal.ofBits, Ideal.ieee]

theorem plus_inf : (Ideal.ofBits .f32 0x7F800000#32 : EReal) = ⊤ := by
  simp [Ideal.ofBits, Ideal.ieee]

/-- The elementwise operations at an entry. -/
theorem sub_at {s : Shape} (a b : FVec Ideal s .f32) (j : s.Idx) : subf a b j = (a j : EReal) - b j := rfl
theorem add_at {s : Shape} (a b : FVec Ideal s .f32) (j : s.Idx) : addf a b j = (a j : EReal) + b j := rfl
theorem max_at {s : Shape} (a b : FVec Ideal s .f32) (j : s.Idx) : maximumf a b j = max (a j : EReal) (b j) := rfl
theorem exp_at {s : Shape} (a : FVec Ideal s .f32) (j : s.Idx) : Host.exp a j = Ideal.exp (a j) := rfl
theorem log_at {s : Shape} (a : FVec Ideal s .f32) (j : s.Idx) : Host.log a j = Ideal.log (a j) := rfl
theorem div_at {s : Shape} (a b : FVec Ideal s .f32) (j : s.Idx) : Host.divf a b j = Ideal.div (a j) (b j) := rfl
theorem count_at {s : Shape} (a : IVec s 1) (j : s.Idx) : (uitofp .f32 a : FVec Ideal s .f32) j = (((a j).toNat : ℝ) : EReal) := rfl
theorem same_at {s : Shape} {w : Nat} (a b : IVec s w) (j : s.Idx) : cmpi .eq a b j = IntOp.cmpi .eq (a j) (b j) := rfl

/-- The sum of a row. -/
theorem sum_apply (x : FVec Ideal Full .f32) (h : Full.ReducesTo [1] Rows) (hu : 0 < One.numel) (r : Fin 128) :
    Host.reduceAdd x (constant One .f32 0x00000000#32) h hu (ix1 r) = ∑ k, row x r k := by
  rw [ValueIdx.hostReduceAdd_apply, Ideal.hostReduceAdd_single h reduces]
  refine (congrArg (· + _) Ideal.ofBits_zero_f32).trans ((zero_add _).trans ?_)
  exact Finset.sum_congr rfl fun k _ => congrArg x (lift_eq (ix1 r) k)

/-- The greatest of a row. -/
theorem max_apply (x : FVec Ideal Full .f32) (h : Full.ReducesTo [1] Rows) (hu : 0 < One.numel) (r : Fin 128) :
    Host.reduce FloatOps.maximumf x (constant One .f32 0xFF800000#32) h hu (ix1 r) = top (row x r) := by
  rw [Host.reduce_eq_fold_single _ _ _ h reduces]
  have e : x ∘ reduces.lift (ix1 r) = row x r := funext fun k => congrArg x (lift_eq (ix1 r) k)
  rw [e]
  exact congrArg (fun b => Finset.univ.fold max b (row x r)) minus_inf

/-- A number for each row, along the row. -/
theorem along_apply {α : Type} (v : Rows.Idx → α) (h : (⟨2, ![128, 1]⟩ : Shape).BroadcastsInDim Full ![0, 1])
    (h' : Rows.BroadcastsInDim ⟨2, ![128, 1]⟩ ![0]) (r : Fin 128) (k : Fin 100000) :
    broadcastInDim Full ![0, 1] h (broadcastInDim ⟨2, ![128, 1]⟩ ![0] h' v) (ix2 r k) = v (ix1 r) := by
  rw [broadcastInDim_apply _ _ _ _ (ix2 r 0) (by intro a; fin_cases a <;> rfl),
    broadcastInDim_apply _ _ _ _ (ix1 r) (by intro a; fin_cases a; rfl)]

/-- Which column an entry stands in. -/
theorem column_apply (h : (⟨2, ![1, 100000]⟩ : Shape).BroadcastsInDim Full ![0, 1]) (r : Fin 128) (k : Fin 100000) :
    broadcastInDim Full ![0, 1] h (iotaInDim ⟨2, ![1, 100000]⟩ 32 1) (ix2 r k) = BitVec.ofNat 32 k.val := by
  rw [broadcastInDim_apply _ _ _ _ (ix2 0 k) (by intro a; fin_cases a <;> rfl)]
  rfl

/-- Two columns are the same where their numbers are. -/
theorem column_inj {k l : Fin 100000} (h : BitVec.ofNat 32 k.val = BitVec.ofNat 32 l.val) : k = l := by
  refine Fin.ext ?_
  have := congrArg BitVec.toNat h
  simp only [BitVec.toNat_ofNat] at this
  omega

/-- One step of the search for the greatest: the value so far and its place, against a next value and its place. -/
def step (a b : Ideal .f32 × BitVec 32) : Ideal .f32 × BitVec 32 :=
  let v2 := FloatOps.cmpf .ogt a.1 b.1
  let v4 := IntOp.ori v2 (FloatOps.cmpf .une a.1 a.1)
  (Scalar.select v4 a.1 b.1,
    Scalar.select (IntOp.ori v4 (IntOp.andi (FloatOps.cmpf .oeq a.1 b.1) (IntOp.cmpi .slt a.2 b.2))) a.2 b.2)

theorem step_gt {a b : Ideal .f32 × BitVec 32} (h : b.1 < a.1) : step a b = a := by
  have e1 : FloatOps.cmpf (F := Ideal) .ogt a.1 b.1 = 1#1 := by simp [Ideal.cmpf_def, Ideal.cmp, h]
  have e2 : FloatOps.cmpf (F := Ideal) .une a.1 a.1 = 0#1 := by simp [Ideal.cmpf_def, Ideal.cmp]
  have e3 : ∀ c : BitVec 1, IntOp.ori 1#1 c = 1#1 := by decide
  have e4 : (1#1 : BitVec 1) = 1 := by decide
  simp only [step, e1, e2, e3, Scalar.select, if_pos e4]

theorem step_lt {a b : Ideal .f32 × BitVec 32} (h : a.1 < b.1) : step a b = b := by
  have e1 : FloatOps.cmpf (F := Ideal) .ogt a.1 b.1 = 0#1 := by
    simp only [Ideal.cmpf_def, Ideal.cmp, decide_eq_false (not_lt.mpr h.le)]; rfl
  have e2 : FloatOps.cmpf (F := Ideal) .une a.1 a.1 = 0#1 := by simp [Ideal.cmpf_def, Ideal.cmp]
  have e3 : FloatOps.cmpf (F := Ideal) .oeq a.1 b.1 = 0#1 := by simp [Ideal.cmpf_def, Ideal.cmp, h.ne]
  have e4 : ∀ c : BitVec 1, IntOp.ori 0#1 (IntOp.andi 0#1 c) = 0#1 := by decide
  have e5 : IntOp.ori (0#1 : BitVec 1) 0#1 = 0#1 := by decide
  have e6 : ¬ (0#1 : BitVec 1) = 1 := by decide
  simp only [step, e1, e2, e3, e4, e5, Scalar.select, if_neg e6]

/-- The search ends at the greatest, where that stands once. -/
theorem search {N : Type} (p : N → Ideal .f32 × BitVec 32) (n : N) :
    ∀ (l : List N) (r : Ideal .f32 × BitVec 32), (∀ k ∈ l, k ≠ n → (p k).1 < (p n).1) →
      (r.1 < (p n).1 ∧ n ∈ l ∧ l.Nodup) ∨ (r = p n ∧ n ∉ l) → l.foldl (fun r k => step r (p k)) r = p n := by
  intro l
  induction l with
  | nil =>
    intro r _ h
    rcases h with ⟨_, h, _⟩ | ⟨h, _⟩
    · exact absurd h List.not_mem_nil
    · exact h
  | cons k l ih =>
    intro r hl h
    rw [List.foldl_cons]
    have hl' := fun m hm => hl m (List.mem_cons_of_mem _ hm)
    rcases h with ⟨hr, hn, hd⟩ | ⟨hr, hn⟩
    · obtain ⟨hk, hd'⟩ := List.nodup_cons.mp hd
      by_cases e : k = n
      · subst e
        exact ih _ hl' (Or.inr ⟨step_lt hr, hk⟩)
      · refine ih _ hl' (Or.inl ⟨?_, (List.mem_cons.mp hn).resolve_left (Ne.symm e), hd'⟩)
        rcases lt_trichotomy r.1 (p k).1 with hlt | heq | hgt
        · rw [step_lt hlt]; exact hl k List.mem_cons_self e
        · have : (step r (p k)).1 = r.1 ∨ (step r (p k)).1 = (p k).1 := by
            simp only [step, Scalar.select]; split_ifs <;> simp
          rcases this with h | h <;> rw [h]
          · exact hr
          · exact hl k List.mem_cons_self e
        · rw [step_gt hgt]; exact hr
    · have e : k ≠ n := fun h => hn (h ▸ List.mem_cons_self)
      refine ih _ hl' (Or.inr ⟨?_, fun h => hn (List.mem_cons_of_mem _ h)⟩)
      rw [hr]
      exact step_gt (hl k List.mem_cons_self e)

/-- The search along a row. -/
theorem place_apply (y : FVec Ideal Full .f32) (h : Full.ReducesTo [1] Rows) (hu : 0 < One.numel) (r : Fin 128) {i : Fin 100000}
    (hi : ∀ k, k ≠ i → row y r k < row y r i) (hb : row y r i ≠ ⊥) :
    Host.argReduce step y (iotaInDim Full 32 1) (constant One .f32 0xFF800000#32 : FVec Ideal One .f32) (constantI One 32 0#32) h hu (ix1 r)
      = (row y r i, BitVec.ofNat 32 i.val) := by
  rw [Ideal.argReduce_eq_reduce2]
  unfold Host.reduce2
  have hd : ∀ n : Fin Full.numel, h.drop (Full.rowMajor.symm n) = ix1 r → ∃ k, Full.rowMajor.symm n = ix2 r k := by
    intro n hn
    refine ⟨(Full.rowMajor.symm n) 1, ?_⟩
    have e := eq_ix2 (Full.rowMajor.symm n)
    rw [Shape.ReducesTo.drop_eq_drop h reduces] at hn
    have : (Full.rowMajor.symm n) 0 = r := congrFun hn 0
    rw [← this]; exact e
  have hdrop : h.drop (ix2 r i) = ix1 r := by
    rw [Shape.ReducesTo.drop_eq_drop h reduces]
    funext a
    match a with
    | 0 => rfl
  refine (search (fun n : Fin Full.numel => (y (Full.rowMajor.symm n), iotaInDim Full 32 1 (Full.rowMajor.symm n)))
    (Full.rowMajor (ix2 r i)) _ _ ?_ (Or.inl ⟨?_, ?_, ?_⟩)).trans ?_
  · intro n hn hne
    obtain ⟨k, hk⟩ := hd n (by simpa using (List.mem_filter.mp hn).2)
    have : k ≠ i := fun e => hne (by rw [← e, ← hk, Equiv.apply_symm_apply])
    simp only [hk, Equiv.symm_apply_apply]
    exact hi k this
  · simp only [Equiv.symm_apply_apply]
    refine lt_of_eq_of_lt minus_inf (bot_lt_iff_ne_bot.mpr hb)
  · refine List.mem_filter.mpr ⟨List.mem_finRange _, ?_⟩
    simp only [Equiv.symm_apply_apply, hdrop, decide_true]
  · exact (List.nodup_finRange _).filter _
  · simp only [Equiv.symm_apply_apply]; rfl

end Cert.Row

end

end
-- ==== Proof.KernelRows.lean ====
/- What a point of the kernel computes from its two blocks, entry by entry. -/
module

public import proofs.«01_k».proof.Proof.Blocks
public import proofs.«01_k».proof.Proof.Reads
public import Idealize.ShloMosaic.Lib.ValueLayoutCasts

@[expose] public section

noncomputable section

namespace Cert.KernelIdeal.Hand

open Cert.KernelIdeal Cert.KernelIdeal.Gen
open Idealize.ShloMosaic
open scoped BigOperators

/-- One row of a block. -/
def line {α : Type} (x : S8x100000.Idx → α) (r : Fin 8) : Fin 100000 → α := fun k => x (ix2 r k)

theorem reduces : S8x100000.Reduces [1] S8 := by decide

theorem lift_eq (j : S8.Idx) (k : Fin 100000) : reduces.lift j k = ix2 (j 0) k := by
  funext a
  refine Fin.ext ?_
  match a with
  | 0 => rfl
  | 1 => rfl

/-- The greatest of a row of a block. -/
theorem greatest (x : FVec Ideal S8x100000 .f32) (h : S8x100000.Reduces [1] S8) (hφ : FKind.Formats .f32)
    (hacc : 0xFF800000#32 = FKind.maximumf.neutral .f32 hφ) (r : Fin 8) :
    multiReduction .maximumf [1] S8 x 0xFF800000#32 h hφ hacc (ix1 r) = Row.top (line x r) := by
  rw [Ideal.multiReduction_maximumf_single]
  have e : x ∘ h.lift (ix1 r) = line x r := funext fun k => congrArg x (lift_eq (ix1 r) k)
  rw [e]
  exact congrArg (fun b => Finset.univ.fold max b (line x r)) Row.minus_inf

/-- The sum of a row of a block. -/
theorem total (x : FVec Ideal S8x100000 .f32) (h : S8x100000.Reduces [1] S8) (hφ : FKind.Formats .f32)
    (hacc : 0x00000000#32 = FKind.add.neutral .f32 hφ) (r : Fin 8) :
    multiReduction .add [1] S8 x 0x00000000#32 h hφ hacc (ix1 r) = ∑ k, line x r k := by
  rw [Ideal.multiReduction_add_single]
  exact Finset.sum_congr rfl fun k _ => congrArg x (lift_eq (ix1 r) k)

/-- A number for each row of a block, along the row. -/
theorem spread_at (v : FVec Ideal S8x1 .f32) (h : S8x1.Broadcasts S8x100000) (r : Fin 8) (k : Fin 100000) :
    broadcastTo S8x100000 v h (ix2 r k) = v (ix2 r 0) :=
  broadcastTo_apply v h _ _ (by intro a; fin_cases a <;> rfl)

/-- The elementwise operations at an entry. -/
theorem exp_at {s : Shape} (a : FVec Ideal s .f32) (j : s.Idx) : exp a j = Ideal.exp (a j) := rfl
theorem log_at {s : Shape} (a : FVec Ideal s .f32) (j : s.Idx) : log a j = Ideal.log (a j) := rfl
theorem mark_at {s : Shape} (a b : FVec Ideal s .f32) (h : 1 < 32) (j : s.Idx) :
    (sitofp .f32 (extui 32 (cmpf .oeq a b) h) : FVec Ideal s .f32) j = ((if (a j : EReal) = b j then 1 else 0 : ℝ) : EReal) := by
  show (((BitVec.setWidth 32 (Ideal.cmp .oeq (a j) (b j))).toInt : ℝ) : EReal) = _
  by_cases e : (a j : EReal) = b j
  · simp [Ideal.cmp, e]
  · simp [Ideal.cmp, e]

variable (x n : FVec Ideal S8x100000 .f32) (r : Fin 8)

theorem pay4_up : k0_pay4 (F := Ideal) (up (F := Ideal) x) = x := by
  rw [k0_pay4]; exact shapeCast_shapeCast x _ _

theorem pay5_at : k0_pay5 (F := Ideal) (up (F := Ideal) x) (ix2 r 0) = Row.top (line x r) := by
  rw [k0_pay5]
  refine (ValueIdx.shapeCast_a_a1_apply _ _ r 0).trans ?_
  rw [pay4_up]
  exact greatest x _ _ _ r

theorem pay6_at : k0_pay6 (F := Ideal) (up (F := Ideal) x) (ix2 r 0) = Ideal.log (∑ k, Ideal.exp (line x r k - Row.top (line x r))) := by
  rw [k0_pay6]
  refine (log_at _ _).trans (congrArg Ideal.log ?_)
  refine (ValueIdx.shapeCast_a_a1_apply _ _ r 0).trans ?_
  refine (total _ _ _ _ r).trans (Finset.sum_congr rfl fun k _ => ?_)
  rw [line, exp_at, Row.sub_at, spread_at, pay5_at, pay4_up, line]

/-- A block of the second result: the logits less their logarithm of the sum of exponentials. -/
theorem lgBlock_at (k : Fin 100000) : lgBlock (F := Ideal) x (ix2 r k)
    = line x r k - (Row.top (line x r) + Ideal.log (∑ l, Ideal.exp (line x r l - Row.top (line x r)))) := by
  have e : lgBlock (F := Ideal) x = k0_pay1 (F := Ideal) (k0_pay4 (F := Ideal) (up (F := Ideal) x)) (k0_pay5 (F := Ideal) (up (F := Ideal) x)) (k0_pay6 (F := Ideal) (up (F := Ideal) x)) := by
    unfold lgBlock; rw [k0_pay3]; exact shapeCast_shapeCast _ _ _
  rw [e, k0_pay1, Row.sub_at, spread_at, Row.add_at, pay5_at, pay6_at, pay4_up, line]

/-- A block of the first result: a one where the second result's block plus noise is greatest in its row. -/
theorem retBlock_at (k : Fin 100000) : retBlock (F := Ideal) x n (ix2 r k)
    = ((if line (addf (lgBlock (F := Ideal) x) n) r k = Row.top (line (addf (lgBlock (F := Ideal) x) n) r) then 1 else 0 : ℝ) : EReal) := by
  have e : lgBlock (F := Ideal) x = k0_pay1 (F := Ideal) (k0_pay4 (F := Ideal) (up (F := Ideal) x)) (k0_pay5 (F := Ideal) (up (F := Ideal) x)) (k0_pay6 (F := Ideal) (up (F := Ideal) x)) := by
    unfold lgBlock; rw [k0_pay3]; exact shapeCast_shapeCast _ _ _
  have en : shapeCast S8x100000 (up (F := Ideal) n) shapeCasts_S1x8x100000_S8x100000 = n := shapeCast_shapeCast n _ _
  unfold retBlock
  rw [k0_pay2, ← e, en]
  refine (congrFun (shapeCast_shapeCast _ _ _) (ix2 r k)).trans ?_
  rw [mark_at, spread_at]
  refine congrArg (fun b : EReal => ((if line (addf (lgBlock (F := Ideal) x) n) r k = b then 1 else 0 : ℝ) : EReal)) ?_
  refine (ValueIdx.shapeCast_a_a1_apply _ _ r 0).trans ?_
  exact greatest _ _ _ _ r

end Cert.KernelIdeal.Hand

end

end
-- ==== Proof.Seed.lean ====
/- The noise as a function: the key made of the number 42, and what the two programs and the precondition draw from
   it. The side conditions of the precondition's operations are the ones the two programs already have. -/
module

public import proofs.«01_k».proof.Pre_one_top
public import proofs.«01_k».proof.Proof.Gen.ReferenceIdeal

@[expose] public section

noncomputable section

namespace Cert.Pre_one_top.Hand

open Cert.Pre_one_top
open Idealize.ShloMosaic

theorem facts : Pre_one_top.Facts :=
  have h := Cert.ReferenceIdeal.Gen.facts
  { bcast_S_S1 := h.bcast_S_S1
    concatenates_S1_S1_S2_d0 := h.concatenates_S1_S1_S2_d0
    bcast_S_S1x1 := h.bcast_S_S1x1
    slices_S2_S1_0 := h.slices_S2_S1_0
    shapeCasts_S1_S_ := h.shapeCasts_S1_S_
    slices_S2_S1_1 := h.slices_S2_S1_1
    bcast_S_S128x100000 := h.bcast_S_S128x100000
    natLt_32_64 := h.natLt_32_64
    bcast_S1x1_S128x100000_0_1 := h.bcast_S1x1_S128x100000_0_1
    reducesTo_S128x100000_S128_d1 := h.reducesTo_S128x100000_S128_d1
    h_S_ := h.h_S_
    bcast_S128_S128x1_0 := h.bcast_S128_S128x1_0
    bcast_S128x1_S128x100000_0_1 := h.bcast_S128x1_S128x100000_0_1 }

local instance : Pre_one_top.Facts := facts

variable (F : FTy → Type) [FloatOps F]

/-- The key: the high and the low word of 42. -/
def key : IVec S2 32 :=
  concatenate S2 0 [⟨S1, broadcastInDim S1 ![] Facts.bcast_S_S1 (Host.shrui (constantI S_ 32 42#32) (constantI S_ 32 32#32))⟩,
    ⟨S1, broadcastInDim S1 ![] Facts.bcast_S_S1 (andi (constantI S_ 32 42#32) (constantI S_ 32 4294967295#32))⟩]
    Facts.concatenates_S1_S1_S2_d0

/-- The noise, as drawn from the key. -/
def drawn : FVec F S128x100000 .f32 := fn_gumbel (F := F) key

end Cert.Pre_one_top.Hand

end

end
-- ==== Proof.ReferenceNoise.lean ====
/- The reference draws its noise by the same operations; read off, segment by segment, it is the noise of the key. -/
module

public import proofs.«01_k».proof.Proof.Seed
public import proofs.«01_k».proof.Proof.Lines
public import Idealize.ShloMosaic.Lib.StableHlo.RunRead

@[expose] public section

set_option maxRecDepth 16384
set_option maxHeartbeats 4000000

noncomputable section

namespace Cert.ReferenceIdeal.Hand

open Cert.ReferenceIdeal
open Idealize.ShloMosaic Idealize.ShloMosaic.StableHlo Idealize.ShloMosaic.TcCoe

local instance : Facts := Gen.facts

variable {F : FTy → Type} [FloatOps F]

local instance : Pre_one_top.Facts := Pre_one_top.Hand.facts

local notation "devRef" => Proc.devRef Proc.tc

variable (d : Dev nD) (W : Valuation τ sig (Elt F))

/-- Operations 217 to 222 of the mixing. -/
def seg9 : List (HloOp τ sig (Elt F)) := ((whole (F := F) d).1.drop 256).take 6

theorem tail9_reads : ((after (seg9 (F := F) d) W (devRef main_call0_call0_v18_0) : IVec S128x100000 32),
      (after (seg9 (F := F) d) W (devRef main_call0_call0_v18_1) : IVec S128x100000 32))
    = Pre_one_top.fn_threefry2x32_part9 (F := F) (W (devRef main_call0_call0_v4)) (W (devRef main_call0_call0_call0_v163)) (W (devRef main_call0_call0_call0_v169)) (W (devRef main_call0_call0_call0_v170)) := by
  refine Prod.ext ?_ ?_
  · after_reads_simp [seg9]
    rfl
  · after_reads_simp [seg9]
    rfl

/-- Operations 193 to 216 of the mixing. -/
def seg8 : List (HloOp τ sig (Elt F)) := ((whole (F := F) d).1.drop 232).take 24

/-- The mixing from operation 193 on. -/
def tail8 : List (HloOp τ sig (Elt F)) := (seg8 (F := F) d) ++ (seg9 (F := F) d)

theorem tail8_reads : ((after (tail8 (F := F) d) W (devRef main_call0_call0_v18_0) : IVec S128x100000 32),
      (after (tail8 (F := F) d) W (devRef main_call0_call0_v18_1) : IVec S128x100000 32))
    = Pre_one_top.fn_threefry2x32_part8 (F := F) (W (devRef main_call0_call0_v4)) (W (devRef main_call0_call0_call0_v1)) (W (devRef main_call0_call0_call0_v148)) (W (devRef main_call0_call0_call0_v149)) (W (devRef main_call0_call0_call0_v151)) := by
  rw [tail8, after_append]
  refine (tail9_reads d _).trans ?_
  rw [Pre_one_top.fn_threefry2x32_part8]
  after_reads_simp [seg8]
  rfl

/-- Operations 169 to 192 of the mixing. -/
def seg7 : List (HloOp τ sig (Elt F)) := ((whole (F := F) d).1.drop 208).take 24

/-- The mixing from operation 169 on. -/
def tail7 : List (HloOp τ sig (Elt F)) := (seg7 (F := F) d) ++ (tail8 (F := F) d)

theorem tail7_reads : ((after (tail7 (F := F) d) W (devRef main_call0_call0_v18_0) : IVec S128x100000 32),
      (after (tail7 (F := F) d) W (devRef main_call0_call0_v18_1) : IVec S128x100000 32))
    = Pre_one_top.fn_threefry2x32_part7 (F := F) (W (devRef main_call0_call0_v4)) (W (devRef main_call0_call0_v6)) (W (devRef main_call0_call0_call0_v1)) (W (devRef main_call0_call0_call0_v128)) (W (devRef main_call0_call0_call0_v129)) (W (devRef main_call0_call0_call0_v131)) (W (devRef main_call0_call0_call0_c_34)) := by
  rw [tail7, after_append]
  refine (tail8_reads d _).trans ?_
  rw [Pre_one_top.fn_threefry2x32_part7]
  after_reads_simp [seg7]
  rfl

/-- Operations 145 to 168 of the mixing. -/
def seg6 : List (HloOp τ sig (Elt F)) := ((whole (F := F) d).1.drop 184).take 24

/-- The mixing from operation 145 on. -/
def tail6 : List (HloOp τ sig (Elt F)) := (seg6 (F := F) d) ++ (tail7 (F := F) d)

theorem tail6_reads : ((after (tail6 (F := F) d) W (devRef main_call0_call0_v18_0) : IVec S128x100000 32),
      (after (tail6 (F := F) d) W (devRef main_call0_call0_v18_1) : IVec S128x100000 32))
    = Pre_one_top.fn_threefry2x32_part6 (F := F) (W (devRef main_call0_call0_v4)) (W (devRef main_call0_call0_v6)) (W (devRef main_call0_call0_call0_v1)) (W (devRef main_call0_call0_call0_v108)) (W (devRef main_call0_call0_call0_v113)) := by
  rw [tail6, after_append]
  refine (tail7_reads d _).trans ?_
  rw [Pre_one_top.fn_threefry2x32_part6]
  after_reads_simp [seg6]
  rfl

/-- Operations 121 to 144 of the mixing. -/
def seg5 : List (HloOp τ sig (Elt F)) := ((whole (F := F) d).1.drop 160).take 24

/-- The mixing from operation 121 on. -/
def tail5 : List (HloOp τ sig (Elt F)) := (seg5 (F := F) d) ++ (tail6 (F := F) d)

theorem tail5_reads : ((after (tail5 (F := F) d) W (devRef main_call0_call0_v18_0) : IVec S128x100000 32),
      (after (tail5 (F := F) d) W (devRef main_call0_call0_v18_1) : IVec S128x100000 32))
    = Pre_one_top.fn_threefry2x32_part5 (F := F) (W (devRef main_call0_call0_v4)) (W (devRef main_call0_call0_v6)) (W (devRef main_call0_call0_call0_v1)) (W (devRef main_call0_call0_call0_v88)) (W (devRef main_call0_call0_call0_v94)) := by
  rw [tail5, after_append]
  refine (tail6_reads d _).trans ?_
  rw [Pre_one_top.fn_threefry2x32_part5]
  after_reads_simp [seg5]
  rfl

/-- Operations 97 to 120 of the mixing. -/
def seg4 : List (HloOp τ sig (Elt F)) := ((whole (F := F) d).1.drop 136).take 24

/-- The mixing from operation 97 on. -/
def tail4 : List (HloOp τ sig (Elt F)) := (seg4 (F := F) d) ++ (tail5 (F := F) d)

theorem tail4_reads : ((after (tail4 (F := F) d) W (devRef main_call0_call0_v18_0) : IVec S128x100000 32),
      (after (tail4 (F := F) d) W (devRef main_call0_call0_v18_1) : IVec S128x100000 32))
    = Pre_one_top.fn_threefry2x32_part4 (F := F) (W (devRef main_call0_call0_v4)) (W (devRef main_call0_call0_v6)) (W (devRef main_call0_call0_call0_v1)) (W (devRef main_call0_call0_call0_v73)) (W (devRef main_call0_call0_call0_v74)) (W (devRef main_call0_call0_call0_v75)) := by
  rw [tail4, after_append]
  refine (tail5_reads d _).trans ?_
  rw [Pre_one_top.fn_threefry2x32_part4]
  after_reads_simp [seg4]
  rfl

/-- Operations 73 to 96 of the mixing. -/
def seg3 : List (HloOp τ sig (Elt F)) := ((whole (F := F) d).1.drop 112).take 24

/-- The mixing from operation 73 on. -/
def tail3 : List (HloOp τ sig (Elt F)) := (seg3 (F := F) d) ++ (tail4 (F := F) d)

theorem tail3_reads : ((after (tail3 (F := F) d) W (devRef main_call0_call0_v18_0) : IVec S128x100000 32),
      (after (tail3 (F := F) d) W (devRef main_call0_call0_v18_1) : IVec S128x100000 32))
    = Pre_one_top.fn_threefry2x32_part3 (F := F) (W (devRef main_call0_call0_v4)) (W (devRef main_call0_call0_v6)) (W (devRef main_call0_call0_call0_v1)) (W (devRef main_call0_call0_call0_v53)) (W (devRef main_call0_call0_call0_v54)) (W (devRef main_call0_call0_call0_v56)) := by
  rw [tail3, after_append]
  refine (tail4_reads d _).trans ?_
  rw [Pre_one_top.fn_threefry2x32_part3]
  after_reads_simp [seg3]
  rfl

/-- Operations 49 to 72 of the mixing. -/
def seg2 : List (HloOp τ sig (Elt F)) := ((whole (F := F) d).1.drop 88).take 24

/-- The mixing from operation 49 on. -/
def tail2 : List (HloOp τ sig (Elt F)) := (seg2 (F := F) d) ++ (tail3 (F := F) d)

theorem tail2_reads : ((after (tail2 (F := F) d) W (devRef main_call0_call0_v18_0) : IVec S128x100000 32),
      (after (tail2 (F := F) d) W (devRef main_call0_call0_v18_1) : IVec S128x100000 32))
    = Pre_one_top.fn_threefry2x32_part2 (F := F) (W (devRef main_call0_call0_v4)) (W (devRef main_call0_call0_v6)) (W (devRef main_call0_call0_call0_v1)) (W (devRef main_call0_call0_call0_v35)) (W (devRef main_call0_call0_call0_v37)) (W (devRef main_call0_call0_call0_c_8)) := by
  rw [tail2, after_append]
  refine (tail3_reads d _).trans ?_
  rw [Pre_one_top.fn_threefry2x32_part2]
  after_reads_simp [seg2]
  rfl

/-- Operations 25 to 48 of the mixing. -/
def seg1 : List (HloOp τ sig (Elt F)) := ((whole (F := F) d).1.drop 64).take 24

/-- The mixing from operation 25 on. -/
def tail1 : List (HloOp τ sig (Elt F)) := (seg1 (F := F) d) ++ (tail2 (F := F) d)

theorem tail1_reads : ((after (tail1 (F := F) d) W (devRef main_call0_call0_v18_0) : IVec S128x100000 32),
      (after (tail1 (F := F) d) W (devRef main_call0_call0_v18_1) : IVec S128x100000 32))
    = Pre_one_top.fn_threefry2x32_part1 (F := F) (W (devRef main_call0_call0_v4)) (W (devRef main_call0_call0_v6)) (W (devRef main_call0_call0_call0_v1)) (W (devRef main_call0_call0_call0_v13)) (W (devRef main_call0_call0_call0_v18)) := by
  rw [tail1, after_append]
  refine (tail2_reads d _).trans ?_
  rw [Pre_one_top.fn_threefry2x32_part1]
  after_reads_simp [seg1]
  rfl

/-- Operations 1 to 24 of the mixing. -/
def seg0 : List (HloOp τ sig (Elt F)) := ((whole (F := F) d).1.drop 40).take 24

/-- The mixing from operation 1 on. -/
def tail0 : List (HloOp τ sig (Elt F)) := (seg0 (F := F) d) ++ (tail1 (F := F) d)

theorem tail0_reads : ((after (tail0 (F := F) d) W (devRef main_call0_call0_v18_0) : IVec S128x100000 32),
      (after (tail0 (F := F) d) W (devRef main_call0_call0_v18_1) : IVec S128x100000 32))
    = Pre_one_top.fn_threefry2x32 (F := F) (W (devRef main_call0_call0_v4)) (W (devRef main_call0_call0_v6)) (W (devRef main_call0_call0_v17)) (W (devRef main_call0_call0_v16)) := by
  rw [tail0, after_append]
  refine (tail1_reads d _).trans ?_
  rw [Pre_one_top.fn_threefry2x32]
  after_reads_simp [seg0]
  rfl

/-- What comes before the mixing: the counter of each entry and the two halves of the key. -/
def before : List (HloOp τ sig (Elt F)) := ((whole (F := F) d).1.drop 17).take 23

/-- What comes after it: from the mixed bits to the noise. -/
def rest : List (HloOp τ sig (Elt F)) := ((whole (F := F) d).1.drop 262).take 22

/-- The operations that draw the noise. -/
def draws : List (HloOp τ sig (Elt F)) := (before (F := F) d) ++ ((tail0 (F := F) d) ++ (rest (F := F) d))

theorem rest_reads : (after (rest (F := F) d) W (devRef main_v13) : FVec F S128x100000 .f32)
    = Host.negf (Host.log (Host.negf (Host.log (Pre_one_top.fn_uniform_part1 (F := F) (W (devRef main_call0_call0_v1)) (W (devRef main_call0_call0_v2))
        (xori (W (devRef main_call0_call0_v18_0)) (W (devRef main_call0_call0_v18_1))))))) := by
  after_reads_simp [rest]
  rfl

theorem tail0_low : after (tail0 (F := F) d) W (devRef main_call0_call0_v1) = W (devRef main_call0_call0_v1) := by
  after_reads_simp [tail0, tail1, tail2, tail3, tail4, tail5, tail6, tail7, tail8, seg0, seg1, seg2, seg3, seg4, seg5, seg6, seg7, seg8, seg9]

theorem tail0_high : after (tail0 (F := F) d) W (devRef main_call0_call0_v2) = W (devRef main_call0_call0_v2) := by
  after_reads_simp [tail0, tail1, tail2, tail3, tail4, tail5, tail6, tail7, tail8, seg0, seg1, seg2, seg3, seg4, seg5, seg6, seg7, seg8, seg9]

/-- The operations that draw the noise leave the noise of the key. -/
theorem draws_reads : (after (draws (F := F) d) W (devRef main_v13) : FVec F S128x100000 .f32) = Pre_one_top.fn_gumbel (F := F) (W (devRef main_v12)) := by
  rw [draws, after_append, after_append]
  refine (rest_reads d _).trans ?_
  rw [tail0_low, tail0_high, show after (tail0 (F := F) d) (after (before (F := F) d) W) (devRef main_call0_call0_v18_0) = _ from congrArg Prod.fst (tail0_reads d (after (before (F := F) d) W)),
    show after (tail0 (F := F) d) (after (before (F := F) d) W) (devRef main_call0_call0_v18_1) = _ from congrArg Prod.snd (tail0_reads d (after (before (F := F) d) W))]
  after_reads_simp [before]
  rfl

end Cert.ReferenceIdeal.Hand

end

end
-- ==== Proof.ReferenceResults.lean ====
/- The reference's two results as functions of its argument and the noise. -/
module

public import proofs.«01_k».proof.Proof.ReferenceNoise
public import proofs.«01_k».proof.Proof.Plain

@[expose] public section

set_option maxRecDepth 16384
set_option maxHeartbeats 4000000

noncomputable section

namespace Cert.ReferenceIdeal.Hand

open Cert.ReferenceIdeal
open Idealize.ShloMosaic Idealize.ShloMosaic.StableHlo Idealize.ShloMosaic.TcCoe Idealize.SL.Sem

local instance : Facts := Gen.facts
local instance : Pre_one_top.Facts := Pre_one_top.Hand.facts

variable {F : FTy → Type} [FloatOps F]

local notation "devRef" => Proc.devRef Proc.tc

/-- A number for each row, along the row. -/
def along {α : Type} (v : S128.Idx → α) : S128x100000.Idx → α :=
  broadcastInDim S128x100000 ![0, 1] Facts₀.bcast_S128x1_S128x100000_0_1 (broadcastInDim S128x1 ![0] Facts₀.bcast_S128_S128x1_0 v)

/-- The sum of each row. -/
def rowSum (x : FVec F S128x100000 .f32) : FVec F S128 .f32 :=
  Host.reduceAdd x (constant S_ .f32 0x00000000#32) Facts₀.reducesTo_S128x100000_S128_d1 Facts₀.h_S_

/-- The greatest of each row. -/
def rowMax (x : FVec F S128x100000 .f32) : FVec F S128 .f32 :=
  Host.reduce FloatOps.maximumf x (constant S_ .f32 0xFF800000#32) Facts₀.reducesTo_S128x100000_S128_d1 Facts₀.h_S_

/-- The logits less the logarithm of the row's sum of exponentials. -/
def norm (x : FVec F S128x100000 .f32) : FVec F S128x100000 .f32 :=
  subf x (broadcastInDim S128x100000 ![0, 1] Facts₀.bcast_S128x1_S128x100000_0_1
    (Host.log (broadcastInDim S128x1 ![0] Facts₀.bcast_S128_S128x1_0 (rowSum (Host.exp x)))))

/-- The exponentials of each row, the row's greatest taken off first. -/
def lifted (g : FVec F S128x100000 .f32) : FVec F S128x100000 .f32 :=
  Host.exp (subf g (along (maximumf (broadcastInDim S128 ![] Facts₀.bcast_S_S128 (constant S_ .f32 0xFF800000#32)) (rowMax g))))

/-- The softmax of each row. -/
def soft (g : FVec F S128x100000 .f32) : FVec F S128x100000 .f32 := Host.divf (lifted g) (along (rowSum (lifted g)))

/-- The place of the greatest in each row. -/
def spot (y : FVec F S128x100000 .f32) : IVec S128 32 := fun j =>
  (Host.argReduce reducer_argmax_f32_i32 y (iotaInDim S128x100000 32 1) (constant S_ .f32 0xFF800000#32 : FVec F S_ .f32) (constantI S_ 32 0#32)
    Facts₀.reducesTo_S128x100000_S128_d1 Facts₀.h_S_ j).2

/-- One at the place, zero elsewhere. -/
def hot (i : IVec S128 32) : FVec F S128x100000 .f32 :=
  uitofp .f32 (cmpi .eq (along i)
    (broadcastInDim S128x100000 ![0, 1] Facts₀.bcast_S1x100000_S128x100000_0_1 (iotaInDim S1x100000 32 1)))

/-- The hard sample, its softmax taken off and put back. -/
def hard (y : FVec F S128x100000 .f32) : FVec F S128x100000 .f32 := addf (subf (hot (spot y)) y) y

variable (d : Dev nD) (W : Valuation τ sig (Elt F))

/-- The normalised logits and the key. -/
def heads : List (HloOp τ sig (Elt F)) := ((whole (F := F) d).1.drop 0).take 17
/-- The softmax. -/
def softs : List (HloOp τ sig (Elt F)) := ((whole (F := F) d).1.drop 284).take 15
/-- The place of the greatest. -/
def places : List (HloOp τ sig (Elt F)) := ((whole (F := F) d).1.drop 299).take 5
/-- The mark at the place. -/
def marks : List (HloOp τ sig (Elt F)) := ((whole (F := F) d).1.drop 304).take 6
/-- The result. -/
def lasts : List (HloOp τ sig (Elt F)) := ((whole (F := F) d).1.drop 310).take 2

theorem whole_eq : (whole (F := F) d).1 = heads d ++ (draws d ++ (softs d ++ (places d ++ (marks d ++ lasts d)))) := rfl

theorem heads_norm : (after (heads d) W (devRef main_v5) : FVec F S128x100000 .f32) = norm (W (devRef main_arg0)) := by
  after_reads_simp [heads]
  rfl

theorem heads_key : (after (heads d) W (devRef main_v12) : IVec S2 32) = Pre_one_top.Hand.key := by
  after_reads_simp [heads]
  rfl

theorem draws_norm : after (draws d) W (devRef main_v5) = W (devRef main_v5) := by
  after_reads_simp [draws]

theorem softs_reads : (after (softs d) W (devRef main_v25) : FVec F S128x100000 .f32)
    = soft (addf (W (devRef main_v5) : FVec F S128x100000 .f32) (W (devRef main_v13) : FVec F S128x100000 .f32)) := by
  after_reads_simp [softs]
  rfl

theorem softs_norm : after (softs d) W (devRef main_v5) = W (devRef main_v5) := by
  after_reads_simp [softs]

theorem places_reads : (after (places d) W (devRef main_v26) : IVec S128 32) = spot (W (devRef main_v25) : FVec F S128x100000 .f32) := by
  after_reads_simp [places]
  rfl

theorem places_soft : after (places d) W (devRef main_v25) = W (devRef main_v25) := by
  after_reads_simp [places]

theorem places_norm : after (places d) W (devRef main_v5) = W (devRef main_v5) := by
  after_reads_simp [places]

theorem marks_reads : (after (marks d) W (devRef main_v27) : FVec F S128x100000 .f32) = hot (W (devRef main_v26) : IVec S128 32) := by
  after_reads_simp [marks]
  rfl

theorem marks_soft : after (marks d) W (devRef main_v25) = W (devRef main_v25) := by
  after_reads_simp [marks]

theorem marks_norm : after (marks d) W (devRef main_v5) = W (devRef main_v5) := by
  after_reads_simp [marks]

theorem lasts_reads : (after (lasts d) W (devRef main_v29) : FVec F S128x100000 .f32)
    = addf (subf (W (devRef main_v27) : FVec F S128x100000 .f32) (W (devRef main_v25) : FVec F S128x100000 .f32)) (W (devRef main_v25) : FVec F S128x100000 .f32) := by
  after_reads_simp [lasts]

theorem lasts_norm : after (lasts d) W (devRef main_v5) = W (devRef main_v5) := by
  after_reads_simp [lasts]

/-- The second result: the normalised logits. -/
theorem whole_norm : (after (whole (F := F) d).1 W (devRef main_v5) : FVec F S128x100000 .f32) = norm (W (devRef main_arg0)) := by
  rw [whole_eq, after_append, after_append, after_append, after_append, after_append, lasts_norm, marks_norm, places_norm, softs_norm, draws_norm,
    heads_norm]

/-- The first: the hard sample of the normalised logits and the noise. -/
theorem whole_hard : (after (whole (F := F) d).1 W (devRef main_v29) : FVec F S128x100000 .f32)
    = hard (soft (addf (norm (W (devRef main_arg0))) (Pre_one_top.Hand.drawn F))) := by
  rw [whole_eq, after_append, after_append, after_append, after_append, after_append, lasts_reads, marks_reads, marks_soft, places_reads, places_soft,
    softs_reads, draws_norm, draws_reads, heads_norm, heads_key]
  rfl

variable (m : (ℓ : Loc nD τ sig) → Buf (Elt F) ℓ) (ρ : Dev nD → PrngReg)

/-- The reference ends with its two results. -/
theorem results : θ_run (defs (F := F)) (onTc (τ := τ) main) ⟨m, fun _ => 0, ρ⟩ fun r => ∀ c : Dev nD,
    r.2.mem ((c.tc : Thread nD τ).loc main_v29)
        = hard (soft (addf (norm (m ((c.tc : Thread nD τ).loc main_arg0))) (Pre_one_top.Hand.drawn F)))
      ∧ r.2.mem ((c.tc : Thread nD τ).loc main_v5) = norm (m ((c.tc : Thread nD τ).loc main_arg0))
      ∧ r.2.mem ((c.tc : Thread nD τ).loc main_arg0) = m ((c.tc : Thread nD τ).loc main_arg0) :=
  θ_run_mono (run m ρ) fun _ h c =>
    ⟨(h c main_v29).trans (whole_hard c (launchContents m c)), (h c main_v5).trans (whole_norm c (launchContents m c)),
      (h c main_arg0).trans (whole_arg m c)⟩

end Cert.ReferenceIdeal.Hand

end

end
-- ==== Proof.ReferenceRows.lean ====
/- The reference's two results, entry by entry. -/
module

public import proofs.«01_k».proof.Proof.ReferenceResults
public import proofs.«01_k».proof.Proof.Reads

@[expose] public section

noncomputable section

namespace Cert.ReferenceIdeal.Hand

open Cert.ReferenceIdeal
open Idealize.ShloMosaic Idealize.ShloMosaic.StableHlo
open scoped BigOperators

local instance : Facts := Gen.facts

theorem along_at {α : Type} (v : S128.Idx → α) (r : Fin 128) (k : Fin 100000) : along v (ix2 r k) = v (ix1 r) := Row.along_apply v _ _ r k

theorem rowSum_at (x : FVec Ideal S128x100000 .f32) (r : Fin 128) : rowSum x (ix1 r) = ∑ l, Row.row x r l := by
  unfold rowSum
  exact Row.sum_apply x _ _ r

theorem rowMax_at (x : FVec Ideal S128x100000 .f32) (r : Fin 128) : rowMax x (ix1 r) = Row.top (Row.row x r) := by
  unfold rowMax
  exact Row.max_apply x _ _ r

theorem norm_eq (x : FVec Ideal S128x100000 .f32) (r : Fin 128) (k : Fin 100000) :
    norm x (ix2 r k) = (x (ix2 r k) : EReal) - Ideal.log (rowSum (Host.exp x) (ix1 r)) := by
  unfold norm
  rw [Row.sub_at, broadcastInDim_apply _ _ _ _ (ix2 r 0) (by intro a; fin_cases a <;> rfl), Row.log_at,
    broadcastInDim_apply _ _ _ _ (ix1 r) (by intro a; fin_cases a; rfl)]

theorem lifted_eq (g : FVec Ideal S128x100000 .f32) (r : Fin 128) (k : Fin 100000) :
    lifted g (ix2 r k) = Ideal.exp ((g (ix2 r k) : EReal) - max (Ideal.ofBits .f32 0xFF800000#32 : EReal) (rowMax g (ix1 r))) := by
  unfold lifted
  rw [Row.exp_at, Row.sub_at, along_at, Row.max_at]
  rfl

theorem soft_eq (g : FVec Ideal S128x100000 .f32) (r : Fin 128) (k : Fin 100000) :
    soft g (ix2 r k) = Ideal.div (lifted g (ix2 r k)) (rowSum (lifted g) (ix1 r)) := by
  unfold soft
  rw [Row.div_at, along_at]

theorem hard_eq (y : FVec Ideal S128x100000 .f32) (j : S128x100000.Idx) :
    hard y j = hot (F := Ideal) (spot y) j - (y j : EReal) + (y j : EReal) := by
  unfold hard
  rw [Row.add_at, Row.sub_at]

/-- A normalised logit: the logit less the logarithm of the row's sum of exponentials. -/
theorem norm_apply (x : FVec Ideal S128x100000 .f32) (r : Fin 128) (k : Fin 100000) :
    norm x (ix2 r k) = Row.row x r k - Ideal.log (∑ l, Ideal.exp (Row.row x r l)) := by
  have e : ∀ l, Row.row (Host.exp x) r l = Ideal.exp (Row.row x r l) := fun l => Row.exp_at x (ix2 r l)
  rw [norm_eq, rowSum_at, Finset.sum_congr rfl fun l _ => e l, Row.row]

theorem lifted_apply (g : FVec Ideal S128x100000 .f32) (r : Fin 128) (k : Fin 100000) :
    lifted g (ix2 r k) = Ideal.exp (Row.row g r k - Row.top (Row.row g r)) := by
  rw [lifted_eq, rowMax_at, Row.minus_inf, max_eq_right bot_le, Row.row]

theorem soft_apply (g : FVec Ideal S128x100000 .f32) (r : Fin 128) (k : Fin 100000) :
    soft g (ix2 r k) = Ideal.div (Ideal.exp (Row.row g r k - Row.top (Row.row g r)))
      (∑ l, Ideal.exp (Row.row g r l - Row.top (Row.row g r))) := by
  have e : ∀ l, Row.row (lifted g) r l = Ideal.exp (Row.row g r l - Row.top (Row.row g r)) := fun l => by rw [Row.row, lifted_apply]
  rw [soft_eq, rowSum_at, lifted_apply, Finset.sum_congr rfl fun l _ => e l]

theorem hot_apply (v : IVec S128 32) (r : Fin 128) (k : Fin 100000) :
    hot (F := Ideal) v (ix2 r k) = (((IntOp.cmpi .eq (v (ix1 r)) (BitVec.ofNat 32 k.val)).toNat : ℝ) : EReal) := by
  unfold hot
  rw [Row.count_at, Row.same_at, along_at, Row.column_apply]

theorem spot_eq (y : FVec Ideal S128x100000 .f32) : spot (F := Ideal) y = fun j =>
    (Host.argReduce reducer_argmax_f32_i32 y (iotaInDim S128x100000 32 1) (constant S_ .f32 0xFF800000#32 : FVec Ideal S_ .f32)
      (constantI S_ 32 0#32) Facts₀.reducesTo_S128x100000_S128_d1 Facts₀.h_S_ j).2 := by
  with_reducible_and_instances (delta spot; rfl)

theorem spot_at (y : FVec Ideal S128x100000 .f32) (r : Fin 128) {i : Fin 100000}
    (hi : ∀ k, k ≠ i → Row.row y r k < Row.row y r i) (hb : Row.row y r i ≠ ⊥) :
    spot (F := Ideal) y (ix1 r) = BitVec.ofNat 32 i.val := by
  have e : reducer_argmax_f32_i32 (F := Ideal) = Row.step := rfl
  rw [spot_eq, e]
  beta_reduce
  rw [Row.place_apply y _ _ r hi hb]

/-- The hard sample, where the greatest of a row of logits plus noise stands once. -/
theorem hard_apply (g : FVec Ideal S128x100000 .f32) (r : Fin 128) {i : Fin 100000}
    (hi : ∀ k, k ≠ i → Row.row g r k < Row.row g r i) (ht : Row.row g r i ≠ ⊤) (hb : Row.row g r i ≠ ⊥) (k : Fin 100000) :
    hard (soft g) (ix2 r k) = ((if k = i then 1 else 0 : ℝ) : EReal) := by
  obtain ⟨y, hy, hlt⟩ := Row.softmax hi ht hb
  have es : ∀ l, Row.row (soft g) r l = (y l : EReal) := fun l => by rw [Row.row, soft_apply, hy]
  have ep : spot (soft g) (ix1 r) = BitVec.ofNat 32 i.val :=
    spot_at (soft g) r (fun l hl => by rw [es, es]; exact EReal.coe_lt_coe_iff.mpr (hlt l hl)) (by rw [es]; exact EReal.coe_ne_bot _)
  have eh : hot (F := Ideal) (spot (soft g)) (ix2 r k) = ((if k = i then 1 else 0 : ℝ) : EReal) := by
    rw [hot_apply, ep]
    refine congrArg _ ?_
    by_cases h : k = i
    · subst h; simp [IntOp.cmpi]
    · have : BitVec.ofNat 32 i.val ≠ BitVec.ofNat 32 k.val := fun e => h (Row.column_inj e).symm
      simp [IntOp.cmpi, this, h]
  have ek : soft g (ix2 r k) = (y k : EReal) := by rw [soft_apply, hy]
  rw [hard_eq, eh, ek, ← EReal.coe_sub, ← EReal.coe_add, sub_add_cancel]

end Cert.ReferenceIdeal.Hand

end

end
-- ==== Proof.Agree.lean ====
/- A row of the kernel's results and the same row of the reference's, where no logit of the row is plus infinity and the
   greatest of its logits plus noise stands once. -/
module

public import proofs.«01_k».proof.Proof.KernelRows
public import proofs.«01_k».proof.Proof.ReferenceRows

@[expose] public section

noncomputable section

namespace Cert.Hand

open Idealize.ShloMosaic
open Cert.KernelIdeal.Hand (lgBlock retBlock line)
open Cert.ReferenceIdeal.Hand (norm hard soft)
open scoped BigOperators

/-- Blocks of eight rows. -/
abbrev Eight : Shape := ⟨2, ![8, 100000]⟩

variable {x n : FVec Ideal Row.Full .f32} {xb nb : FVec Ideal Eight .f32} {r : Fin 128} {q : Fin 8} {i : Fin 100000}

/-- The place of the greatest is not minus infinity. -/
theorem top_ne_bot {a b : EReal} {s t : ℝ} (h : a + s < b + t) : b ≠ ⊥ := by
  rintro rfl
  rw [EReal.bot_add] at h
  exact absurd h not_lt_bot

/-- The logarithm of the sum of exponentials, for a row whose greatest stands once: in the two forms the two programs
    compute, or the one number it is. -/
theorem row_log (hx : ∀ k, Row.row x r k ≠ ⊤) (hi : Row.row x r i ≠ ⊥) :
    ∃ L : ℝ, (∀ k, norm (F := Ideal) x (ix2 r k) = Row.row x r k - L) ∧
      (line xb q = Row.row x r → ∀ k, lgBlock (F := Ideal) xb (ix2 q k) = Row.row x r k - L) := by
  obtain ⟨L, h1, h2⟩ := Row.logsum hx hi
  refine ⟨L, fun k => ?_, fun e k => ?_⟩
  · rw [Cert.ReferenceIdeal.Hand.norm_apply, h1]
  · rw [Cert.KernelIdeal.Hand.lgBlock_at, e, h2]

/-- The second result. -/
theorem lg_agree (hx : ∀ k, Row.row x r k ≠ ⊤) (hi : Row.row x r i ≠ ⊥) (e : line xb q = Row.row x r) (k : Fin 100000) :
    lgBlock (F := Ideal) xb (ix2 q k) = norm (F := Ideal) x (ix2 r k) := by
  obtain ⟨L, h1, h2⟩ := row_log (xb := xb) (q := q) hx hi
  rw [h1, h2 e]

/-- The first result. -/
theorem ret_agree (hx : ∀ k, Row.row x r k ≠ ⊤) (hn : ∀ k, ∃ s : ℝ, Row.row n r k = (s : EReal))
    (hi : ∀ k, k ≠ i → Row.row x r k + Row.row n r k < Row.row x r i + Row.row n r i) (hb : Row.row x r i ≠ ⊥)
    (e : line xb q = Row.row x r) (en : line nb q = Row.row n r) (k : Fin 100000) :
    retBlock (F := Ideal) xb nb (ix2 q k) = hard (F := Ideal) (soft (addf (norm x) n)) (ix2 r k) := by
  obtain ⟨L, h1, h2⟩ := row_log (xb := xb) (q := q) hx hb
  have eg : ∀ l, Row.row (addf (norm (F := Ideal) x) n) r l = Row.row x r l - L + Row.row n r l := fun l => by
    rw [Row.row, Row.add_at, h1]; rfl
  have ek : line (addf (lgBlock (F := Ideal) xb) nb) q = Row.row (addf (norm (F := Ideal) x) n) r := by
    funext l
    have : nb (ix2 q l) = Row.row n r l := congrFun en l
    rw [eg, line, Row.add_at, h2 e, this]
  have hg : ∀ l, l ≠ i → Row.row (addf (norm (F := Ideal) x) n) r l < Row.row (addf (norm (F := Ideal) x) n) r i := fun l hl => by
    obtain ⟨s, hs⟩ := hn l
    obtain ⟨t, ht⟩ := hn i
    have h := hi l hl
    rw [hs, ht] at h
    rw [eg, eg, hs, ht]
    exact Row.shift_lt h
  obtain ⟨a, ha⟩ : ∃ a : ℝ, Row.row x r i = (a : EReal) := ⟨(Row.row x r i).toReal, (EReal.coe_toReal (hx i) hb).symm⟩
  obtain ⟨t, ht⟩ := hn i
  have ei : Row.row (addf (norm (F := Ideal) x) n) r i = ((a - L + t : ℝ) : EReal) := by
    rw [eg, ha, ht, ← EReal.coe_sub, ← EReal.coe_add]
  have ht' : Row.row (addf (norm (F := Ideal) x) n) r i ≠ ⊤ := by rw [ei]; exact EReal.coe_ne_top _
  have hb' : Row.row (addf (norm (F := Ideal) x) n) r i ≠ ⊥ := by rw [ei]; exact EReal.coe_ne_bot _
  rw [Cert.KernelIdeal.Hand.retBlock_at, Cert.ReferenceIdeal.Hand.hard_apply _ r hg ht' hb' k, ek]
  have hle : ∀ l, Row.row (addf (norm (F := Ideal) x) n) r l ≤ Row.row (addf (norm (F := Ideal) x) n) r i := fun l => by
    by_cases h : l = i
    · rw [h]
    · exact (hg l h).le
  rw [Row.top_eq hle]
  by_cases h : k = i
  · rw [if_pos h, h, if_pos rfl]
  · rw [if_neg h, if_neg (hg k h).ne]

end Cert.Hand

end

end
-- ==== Proof.Noise.lean ====
/- Every number of the noise is a real: the uniform draw lies strictly between nothing and one, and the logarithm of a
   number there is negative. -/
module

public import proofs.«01_k».proof.Proof.Seed
public import proofs.«01_k».proof.Proof.Reads

@[expose] public section

noncomputable section

namespace Cert.Pre_one_top.Hand

open Cert.Pre_one_top
open Idealize.ShloMosaic

local instance : Pre_one_top.Facts := facts

/-- A word with the exponent of one and a free fraction. -/
def framed (b : BitVec 32) : BitVec 32 := b >>> 9 ||| 0x3F800000#32

theorem framed_sign (b : BitVec 32) : (framed b).extractLsb' 31 1 = 0#1 := by
  refine BitVec.eq_of_getLsbD_eq fun i hi => ?_
  obtain rfl : i = 0 := by omega
  have : b.getLsbD 40 = false := BitVec.getLsbD_of_ge b 40 (by omega)
  simp [framed, BitVec.getLsbD_extractLsb', BitVec.getLsbD_or, BitVec.getLsbD_ushiftRight, this]

theorem framed_exponent (b : BitVec 32) : (framed b).extractLsb' 23 8 = 127#8 := by
  refine BitVec.eq_of_getLsbD_eq fun i hi => ?_
  have : b.getLsbD (9 + (23 + i)) = false := BitVec.getLsbD_of_ge b _ (by omega)
  simp only [framed, BitVec.getLsbD_extractLsb', BitVec.getLsbD_or, BitVec.getLsbD_ushiftRight, this, Bool.false_or]
  interval_cases i <;> decide

/-- Such a word is a number from one to under two. -/
theorem framed_real (b : BitVec 32) : ∃ f : ℝ, Ideal.ofBits .f32 (framed b) = (f : EReal) ∧ 1 ≤ f ∧ f < 2 := by
  have hlt : ((framed b).extractLsb' 0 23).toNat < 2 ^ 23 := BitVec.isLt _
  refine ⟨(1 * (2 ^ 23 + ((framed b).extractLsb' 0 23).toNat : ℕ) * (2 : ℝ) ^ ((127 : ℤ) - (2 ^ 7 - 1) - 23) : ℝ), ?_, ?_⟩
  · unfold Ideal.ofBits Ideal.ieee
    simp [framed_sign, framed_exponent]
  · generalize ((framed b).extractLsb' 0 23).toNat = n at hlt
    have hn : (n : ℝ) < 2 ^ 23 := by exact_mod_cast hlt
    have h0 : (0 : ℝ) ≤ n := n.cast_nonneg
    have e : (2 : ℝ) ^ ((127 : ℤ) - (2 ^ 7 - 1) - 23) = 1 / 2 ^ 23 := by norm_num [zpow_neg]
    rw [e]
    push_cast
    constructor
    · rw [mul_one_div, le_div_iff₀ (by positivity)]; linarith
    · rw [mul_one_div, div_lt_iff₀ (by positivity)]; linarith

/-- The least number of the format that is above nothing and not denormal. -/
theorem tiny_real : ∃ t : ℝ, Ideal.ofBits .f32 0x00800000#32 = (t : EReal) ∧ 0 < t ∧ t < 1 := by
  refine ⟨(1 * (2 ^ 23 + 0 : ℕ) * (2 : ℝ) ^ ((1 : ℤ) - (2 ^ 7 - 1) - 23) : ℝ), ?_, ?_, ?_⟩
  · simp [Ideal.ofBits, Ideal.ieee]
  · positivity
  · norm_num

/-- The uniform draw, strictly between nothing and one. -/
theorem uniform_real (w : IVec S128x100000 32) (j : S128x100000.Idx) :
    ∃ u : ℝ, fn_uniform_part1 (F := Ideal) (broadcastInDim S1x1 ![] Facts.bcast_S_S1x1 (constant S_ .f32 0x00800000#32))
      (broadcastInDim S1x1 ![] Facts.bcast_S_S1x1 (constant S_ .f32 0x3F800000#32)) w j = (u : EReal) ∧ 0 < u ∧ u < 1 := by
  obtain ⟨t, ht, ht0, ht1⟩ := tiny_real
  obtain ⟨f, hf, hf1, hf2⟩ := framed_real (w j)
  have e : fn_uniform_part1 (F := Ideal) (broadcastInDim S1x1 ![] Facts.bcast_S_S1x1 (constant S_ .f32 0x00800000#32))
      (broadcastInDim S1x1 ![] Facts.bcast_S_S1x1 (constant S_ .f32 0x3F800000#32)) w j
      = max (Ideal.ofBits .f32 0x00800000#32) ((Ideal.ofBits .f32 (framed (w j)) - Ideal.ofBits .f32 0x3F800000#32)
        * (Ideal.ofBits .f32 0x3F800000#32 - Ideal.ofBits .f32 0x00800000#32) + Ideal.ofBits .f32 0x00800000#32) := rfl
  have e1 : (1 : EReal) = ((1 : ℝ) : EReal) := rfl
  refine ⟨max t ((f - 1) * (1 - t) + t), ?_, lt_max_of_lt_left ht0, max_lt ht1 ?_⟩
  · rw [e, ht, hf, Ideal.ofBits_one_f32, e1, ← EReal.coe_sub, ← EReal.coe_sub, ← EReal.coe_mul, ← EReal.coe_add]
    exact (Monotone.map_max EReal.coe_strictMono.monotone).symm
  · nlinarith

/-- Every number of the noise is a real. -/
theorem drawn_real (j : S128x100000.Idx) : ∃ n : ℝ, drawn Ideal j = (n : EReal) := by
  obtain ⟨w, hw⟩ : ∃ w : IVec S128x100000 32, drawn Ideal = Host.negf (Host.log (Host.negf (Host.log
      (fn_uniform_part1 (F := Ideal) (broadcastInDim S1x1 ![] Facts.bcast_S_S1x1 (constant S_ .f32 0x00800000#32))
        (broadcastInDim S1x1 ![] Facts.bcast_S_S1x1 (constant S_ .f32 0x3F800000#32)) w)))) := by
    unfold drawn fn_gumbel fn_uniform
    exact ⟨_, rfl⟩
  obtain ⟨u, hu, hu0, hu1⟩ := uniform_real w j
  have e : drawn Ideal j = -Ideal.log (-Ideal.log (u : EReal)) := by rw [hw, ← hu]; rfl
  refine ⟨-Real.log (-Real.log u), ?_⟩
  rw [e, Row.log_pos hu0, ← EReal.coe_neg, Row.log_pos (neg_pos.mpr (Real.log_neg hu0 hu1)), ← EReal.coe_neg]

end Cert.Pre_one_top.Hand

end

end
-- ==== Proof.Tops.lean ====
/- What the precondition says: no logit is plus infinity, and in every row of logits plus noise the greatest stands once. -/
module

public import proofs.«01_k».proof.Proof.Noise

@[expose] public section

noncomputable section

namespace Cert.Pre_one_top.Hand

open Cert.Pre_one_top
open Idealize.ShloMosaic

local instance : Pre_one_top.Facts := facts

/-- Logits plus noise with one place of each row put to minus infinity. -/
def spared (y : FVec Ideal S128x100000 .f32) (v : IVec S128 32) : FVec Ideal S128x100000 .f32 :=
  select (cmpi .eq (iotaInDim S128x100000 32 1)
      (broadcastInDim S128x100000 ![0, 1] Facts.bcast_S128x1_S128x100000_0_1 (broadcastInDim S128x1 ![0] Facts.bcast_S128_S128x1_0 v)))
    (broadcastInDim S128x100000 ![] Facts.bcast_S_S128x100000 (constant S_ .f32 0xFF800000#32)) y

theorem spared_apply (y : FVec Ideal S128x100000 .f32) (v : IVec S128 32) (r : Fin 128) {k : Fin 100000}
    (h : BitVec.ofNat 32 k.val ≠ v (ix1 r)) : spared y v (ix2 r k) = y (ix2 r k) := by
  have e : cmpi .eq (iotaInDim S128x100000 32 1)
      (broadcastInDim S128x100000 ![0, 1] Facts.bcast_S128x1_S128x100000_0_1 (broadcastInDim S128x1 ![0] Facts.bcast_S128_S128x1_0 v))
      (ix2 r k) = IntOp.cmpi .eq (BitVec.ofNat 32 k.val) (v (ix1 r)) :=
    congrArg (IntOp.cmpi .eq (BitVec.ofNat 32 k.val)) (Row.along_apply v _ _ r k)
  have e' : IntOp.cmpi .eq (BitVec.ofNat 32 k.val) (v (ix1 r)) = 0#1 := by simp [IntOp.cmpi, beq_eq_false_iff_ne.mpr h]
  show Scalar.select _ _ _ = _
  rw [e, e']
  rfl

/-- The precondition, its two parts written out. -/
theorem fn_eq (x : FVec Ideal S128x100000 .f32) : ∃ v : IVec S128 32,
    (fn (F := Ideal) x).1 = cmpf .olt x (broadcastInDim S128x100000 ![] Facts.bcast_S_S128x100000 (constant S_ .f32 0x7F800000#32)) ∧
    (fn (F := Ideal) x).2 = cmpf .olt
      (Host.reduce FloatOps.maximumf (spared (addf x (drawn Ideal)) v) (constant S_ .f32 0xFF800000#32) Facts.reducesTo_S128x100000_S128_d1 Facts.h_S_)
      (Host.reduce FloatOps.maximumf (addf x (drawn Ideal)) (constant S_ .f32 0xFF800000#32) Facts.reducesTo_S128x100000_S128_d1 Facts.h_S_) :=
  ⟨fn_argmax (F := Ideal) (addf x (drawn Ideal)), rfl, rfl⟩

theorem lt_of_olt {a b : Ideal .f32} (h : FloatOps.cmpf .olt a b = 1#1) : (a : EReal) < b := by
  by_contra hn
  rw [Ideal.cmpf_def] at h
  simp only [Ideal.cmp, decide_eq_false hn] at h
  exact absurd h (by decide)

/-- The greatest of a row. -/
theorem greatest (y : FVec Ideal S128x100000 .f32) (r : Fin 128) :
    Host.reduce FloatOps.maximumf y (constant S_ .f32 0xFF800000#32) Facts.reducesTo_S128x100000_S128_d1 Facts.h_S_ (ix1 r)
      = Row.top (Row.row y r) := Row.max_apply y _ _ r

theorem below {x : FVec Ideal S128x100000 .f32} (h1 : (fn (F := Ideal) x).1 = fun _ => 1#1) (j : S128x100000.Idx) : (x j : EReal) ≠ ⊤ := by
  obtain ⟨v, e1, e2⟩ := fn_eq x
  have h : FloatOps.cmpf .olt (x j) (Ideal.ofBits .f32 0x7F800000#32) = 1#1 := congrFun (e1.symm.trans h1) j
  have h' := lt_of_olt h
  rw [Row.plus_inf] at h'
  exact h'.ne

theorem less_at (a b : FVec Ideal S128 .f32) (j : S128.Idx) : cmpf .olt a b j = FloatOps.cmpf .olt (a j) (b j) := rfl

theorem apart {x : FVec Ideal S128x100000 .f32} (h2 : (fn (F := Ideal) x).2 = fun _ => 1#1) (r : Fin 128) :
    ∃ v : IVec S128 32, Row.top (Row.row (spared (addf x (drawn Ideal)) v) r) < Row.top (Row.row (addf x (drawn Ideal)) r) := by
  obtain ⟨v, e1, e2⟩ := fn_eq x
  refine ⟨v, ?_⟩
  have h := congrFun (e2.symm.trans h2) (ix1 r)
  rw [less_at, greatest, greatest] at h
  exact lt_of_olt h

/-- In a row of logits plus noise the greatest stands once. -/
theorem single {x : FVec Ideal S128x100000 .f32} (h2 : (fn (F := Ideal) x).2 = fun _ => 1#1) (r : Fin 128) :
    ∃ i, ∀ k, k ≠ i → Row.row (addf x (drawn Ideal)) r k < Row.row (addf x (drawn Ideal)) r i := by
  obtain ⟨v, hv⟩ := apart h2 r
  generalize addf x (drawn Ideal) = y at hv
  obtain ⟨i, hi⟩ := Row.top_attained (Row.row y r)
  rw [hi] at hv
  have key : ∀ k : Fin 100000, BitVec.ofNat 32 k.val ≠ v (ix1 r) → Row.row y r k < Row.row y r i := fun k hk => by
    have e : Row.row (spared y v) r k = Row.row y r k := spared_apply y v r hk
    rw [← e]
    exact lt_of_le_of_lt (Row.le_top _ k) hv
  have hv : BitVec.ofNat 32 i.val = v (ix1 r) := by
    by_contra hn
    exact lt_irrefl _ (key i hn)
  exact ⟨i, fun k hk => key k fun e => hk (Row.column_inj (e.trans hv.symm))⟩

end Cert.Pre_one_top.Hand

end

end
-- ==== Proof.KernelNoise.lean ====
/- The kernel's program draws its noise operation by operation; read off, segment by segment, it is the noise of the
   key. A segment is as long as the parts the function is written in. -/
module

public import proofs.«01_k».proof.Proof.Seed
public import proofs.«01_k».proof.Proof.Launch
public import Idealize.ShloMosaic.Lib.StableHlo.RunRead

@[expose] public section

set_option maxRecDepth 16384
set_option maxHeartbeats 4000000

noncomputable section

namespace Cert.KernelIdeal.Hand

open Cert.KernelIdeal Cert.KernelIdeal.Gen
open Idealize.ShloMosaic Idealize.ShloMosaic.StableHlo Idealize.ShloMosaic.TcCoe

variable {F : FTy → Type} [FloatOps F]

local instance : Pre_one_top.Facts := Pre_one_top.Hand.facts

local notation "devRef" => Proc.devRef Proc.tc

variable (W : Valuation τ sig (Elt F))

/-- Operations 217 to 222 of the mixing. -/
def seg9 : List (HloOp τ sig (Elt F)) := (hostOps0_1.drop 239).take 6

theorem tail9_reads : ((after seg9 W (devRef main_call0_call0_v18_0) : IVec S128x100000 32),
      (after seg9 W (devRef main_call0_call0_v18_1) : IVec S128x100000 32))
    = Pre_one_top.fn_threefry2x32_part9 (F := F) (W (devRef main_call0_call0_v4)) (W (devRef main_call0_call0_call0_v163)) (W (devRef main_call0_call0_call0_v169)) (W (devRef main_call0_call0_call0_v170)) := by
  refine Prod.ext ?_ ?_
  · after_reads_simp [seg9]
    rfl
  · after_reads_simp [seg9]
    rfl

/-- Operations 193 to 216 of the mixing. -/
def seg8 : List (HloOp τ sig (Elt F)) := (hostOps0_1.drop 215).take 24

/-- The mixing from operation 193 on. -/
def tail8 : List (HloOp τ sig (Elt F)) := seg8 ++ seg9

theorem tail8_reads : ((after tail8 W (devRef main_call0_call0_v18_0) : IVec S128x100000 32),
      (after tail8 W (devRef main_call0_call0_v18_1) : IVec S128x100000 32))
    = Pre_one_top.fn_threefry2x32_part8 (F := F) (W (devRef main_call0_call0_v4)) (W (devRef main_call0_call0_call0_v1)) (W (devRef main_call0_call0_call0_v148)) (W (devRef main_call0_call0_call0_v149)) (W (devRef main_call0_call0_call0_v151)) := by
  rw [tail8, after_append]
  refine (tail9_reads _).trans ?_
  rw [Pre_one_top.fn_threefry2x32_part8]
  after_reads_simp [seg8]
  rfl

/-- Operations 169 to 192 of the mixing. -/
def seg7 : List (HloOp τ sig (Elt F)) := (hostOps0_1.drop 191).take 24

/-- The mixing from operation 169 on. -/
def tail7 : List (HloOp τ sig (Elt F)) := seg7 ++ tail8

theorem tail7_reads : ((after tail7 W (devRef main_call0_call0_v18_0) : IVec S128x100000 32),
      (after tail7 W (devRef main_call0_call0_v18_1) : IVec S128x100000 32))
    = Pre_one_top.fn_threefry2x32_part7 (F := F) (W (devRef main_call0_call0_v4)) (W (devRef main_call0_call0_v6)) (W (devRef main_call0_call0_call0_v1)) (W (devRef main_call0_call0_call0_v128)) (W (devRef main_call0_call0_call0_v129)) (W (devRef main_call0_call0_call0_v131)) (W (devRef main_call0_call0_call0_c_34)) := by
  rw [tail7, after_append]
  refine (tail8_reads _).trans ?_
  rw [Pre_one_top.fn_threefry2x32_part7]
  after_reads_simp [seg7]
  rfl

/-- Operations 145 to 168 of the mixing. -/
def seg6 : List (HloOp τ sig (Elt F)) := (hostOps0_1.drop 167).take 24

/-- The mixing from operation 145 on. -/
def tail6 : List (HloOp τ sig (Elt F)) := seg6 ++ tail7

theorem tail6_reads : ((after tail6 W (devRef main_call0_call0_v18_0) : IVec S128x100000 32),
      (after tail6 W (devRef main_call0_call0_v18_1) : IVec S128x100000 32))
    = Pre_one_top.fn_threefry2x32_part6 (F := F) (W (devRef main_call0_call0_v4)) (W (devRef main_call0_call0_v6)) (W (devRef main_call0_call0_call0_v1)) (W (devRef main_call0_call0_call0_v108)) (W (devRef main_call0_call0_call0_v113)) := by
  rw [tail6, after_append]
  refine (tail7_reads _).trans ?_
  rw [Pre_one_top.fn_threefry2x32_part6]
  after_reads_simp [seg6]
  rfl

/-- Operations 121 to 144 of the mixing. -/
def seg5 : List (HloOp τ sig (Elt F)) := (hostOps0_1.drop 143).take 24

/-- The mixing from operation 121 on. -/
def tail5 : List (HloOp τ sig (Elt F)) := seg5 ++ tail6

theorem tail5_reads : ((after tail5 W (devRef main_call0_call0_v18_0) : IVec S128x100000 32),
      (after tail5 W (devRef main_call0_call0_v18_1) : IVec S128x100000 32))
    = Pre_one_top.fn_threefry2x32_part5 (F := F) (W (devRef main_call0_call0_v4)) (W (devRef main_call0_call0_v6)) (W (devRef main_call0_call0_call0_v1)) (W (devRef main_call0_call0_call0_v88)) (W (devRef main_call0_call0_call0_v94)) := by
  rw [tail5, after_append]
  refine (tail6_reads _).trans ?_
  rw [Pre_one_top.fn_threefry2x32_part5]
  after_reads_simp [seg5]
  rfl

/-- Operations 97 to 120 of the mixing. -/
def seg4 : List (HloOp τ sig (Elt F)) := (hostOps0_1.drop 119).take 24

/-- The mixing from operation 97 on. -/
def tail4 : List (HloOp τ sig (Elt F)) := seg4 ++ tail5

theorem tail4_reads : ((after tail4 W (devRef main_call0_call0_v18_0) : IVec S128x100000 32),
      (after tail4 W (devRef main_call0_call0_v18_1) : IVec S128x100000 32))
    = Pre_one_top.fn_threefry2x32_part4 (F := F) (W (devRef main_call0_call0_v4)) (W (devRef main_call0_call0_v6)) (W (devRef main_call0_call0_call0_v1)) (W (devRef main_call0_call0_call0_v73)) (W (devRef main_call0_call0_call0_v74)) (W (devRef main_call0_call0_call0_v75)) := by
  rw [tail4, after_append]
  refine (tail5_reads _).trans ?_
  rw [Pre_one_top.fn_threefry2x32_part4]
  after_reads_simp [seg4]
  rfl

/-- Operations 73 to 96 of the mixing. -/
def seg3 : List (HloOp τ sig (Elt F)) := (hostOps0_1.drop 95).take 24

/-- The mixing from operation 73 on. -/
def tail3 : List (HloOp τ sig (Elt F)) := seg3 ++ tail4

theorem tail3_reads : ((after tail3 W (devRef main_call0_call0_v18_0) : IVec S128x100000 32),
      (after tail3 W (devRef main_call0_call0_v18_1) : IVec S128x100000 32))
    = Pre_one_top.fn_threefry2x32_part3 (F := F) (W (devRef main_call0_call0_v4)) (W (devRef main_call0_call0_v6)) (W (devRef main_call0_call0_call0_v1)) (W (devRef main_call0_call0_call0_v53)) (W (devRef main_call0_call0_call0_v54)) (W (devRef main_call0_call0_call0_v56)) := by
  rw [tail3, after_append]
  refine (tail4_reads _).trans ?_
  rw [Pre_one_top.fn_threefry2x32_part3]
  after_reads_simp [seg3]
  rfl

/-- Operations 49 to 72 of the mixing. -/
def seg2 : List (HloOp τ sig (Elt F)) := (hostOps0_1.drop 71).take 24

/-- The mixing from operation 49 on. -/
def tail2 : List (HloOp τ sig (Elt F)) := seg2 ++ tail3

theorem tail2_reads : ((after tail2 W (devRef main_call0_call0_v18_0) : IVec S128x100000 32),
      (after tail2 W (devRef main_call0_call0_v18_1) : IVec S128x100000 32))
    = Pre_one_top.fn_threefry2x32_part2 (F := F) (W (devRef main_call0_call0_v4)) (W (devRef main_call0_call0_v6)) (W (devRef main_call0_call0_call0_v1)) (W (devRef main_call0_call0_call0_v35)) (W (devRef main_call0_call0_call0_v37)) (W (devRef main_call0_call0_call0_c_8)) := by
  rw [tail2, after_append]
  refine (tail3_reads _).trans ?_
  rw [Pre_one_top.fn_threefry2x32_part2]
  after_reads_simp [seg2]
  rfl

/-- Operations 25 to 48 of the mixing. -/
def seg1 : List (HloOp τ sig (Elt F)) := (hostOps0_1.drop 47).take 24

/-- The mixing from operation 25 on. -/
def tail1 : List (HloOp τ sig (Elt F)) := seg1 ++ tail2

theorem tail1_reads : ((after tail1 W (devRef main_call0_call0_v18_0) : IVec S128x100000 32),
      (after tail1 W (devRef main_call0_call0_v18_1) : IVec S128x100000 32))
    = Pre_one_top.fn_threefry2x32_part1 (F := F) (W (devRef main_call0_call0_v4)) (W (devRef main_call0_call0_v6)) (W (devRef main_call0_call0_call0_v1)) (W (devRef main_call0_call0_call0_v13)) (W (devRef main_call0_call0_call0_v18)) := by
  rw [tail1, after_append]
  refine (tail2_reads _).trans ?_
  rw [Pre_one_top.fn_threefry2x32_part1]
  after_reads_simp [seg1]
  rfl

/-- Operations 1 to 24 of the mixing. -/
def seg0 : List (HloOp τ sig (Elt F)) := (hostOps0_1.drop 23).take 24

/-- The mixing from operation 1 on. -/
def tail0 : List (HloOp τ sig (Elt F)) := seg0 ++ tail1

theorem tail0_reads : ((after tail0 W (devRef main_call0_call0_v18_0) : IVec S128x100000 32),
      (after tail0 W (devRef main_call0_call0_v18_1) : IVec S128x100000 32))
    = Pre_one_top.fn_threefry2x32 (F := F) (W (devRef main_call0_call0_v4)) (W (devRef main_call0_call0_v6)) (W (devRef main_call0_call0_v17)) (W (devRef main_call0_call0_v16)) := by
  rw [tail0, after_append]
  refine (tail1_reads _).trans ?_
  rw [Pre_one_top.fn_threefry2x32]
  after_reads_simp [seg0]
  rfl

/-- What comes before the mixing: the counter of each entry and the two halves of the key. -/
def before : List (HloOp τ sig (Elt F)) := (hostOps0_1.drop 0).take 23

/-- What comes after it: from the mixed bits to the noise. -/
def rest : List (HloOp τ sig (Elt F)) := (hostOps0_1.drop 245).take 22

/-- The operations that draw the noise. -/
def draws : List (HloOp τ sig (Elt F)) := before ++ (tail0 ++ rest)

theorem rest_reads : (after rest W (devRef main_v7) : FVec F S128x100000 .f32)
    = Host.negf (Host.log (Host.negf (Host.log (Pre_one_top.fn_uniform_part1 (F := F) (W (devRef main_call0_call0_v1)) (W (devRef main_call0_call0_v2))
        (xori (W (devRef main_call0_call0_v18_0)) (W (devRef main_call0_call0_v18_1))))))) := by
  after_reads_simp [rest]
  rfl

theorem tail0_low : after tail0 W (devRef main_call0_call0_v1) = W (devRef main_call0_call0_v1) := by
  after_reads_simp [tail0, tail1, tail2, tail3, tail4, tail5, tail6, tail7, tail8, seg0, seg1, seg2, seg3, seg4, seg5, seg6, seg7, seg8, seg9]

theorem tail0_high : after tail0 W (devRef main_call0_call0_v2) = W (devRef main_call0_call0_v2) := by
  after_reads_simp [tail0, tail1, tail2, tail3, tail4, tail5, tail6, tail7, tail8, seg0, seg1, seg2, seg3, seg4, seg5, seg6, seg7, seg8, seg9]

/-- The operations that draw the noise leave the noise of the key. -/
theorem draws_reads : (after draws W (devRef main_v7) : FVec F S128x100000 .f32) = Pre_one_top.fn_gumbel (F := F) (W (devRef main_v6)) := by
  rw [draws, after_append, after_append]
  refine (rest_reads _).trans ?_
  rw [tail0_low, tail0_high, show after tail0 (after before W) (devRef main_call0_call0_v18_0) = _ from congrArg Prod.fst (tail0_reads (after before W)),
    show after tail0 (after before W) (devRef main_call0_call0_v18_1) = _ from congrArg Prod.snd (tail0_reads (after before W))]
  after_reads_simp [before]
  rfl

theorem draws_eq : (hostOps0_1 : List (HloOp τ sig (Elt F))) = draws := rfl

/-- The operations before them make the key. -/
theorem key_reads : (after hostOps0 W (devRef main_v6) : IVec S2 32) = Pre_one_top.Hand.key := by
  after_reads_simp
  rfl

/-- The noise the kernel's programs hand to the points. -/
theorem V_noise (m : (ℓ : Loc nD τ sig) → Buf (Elt F) ℓ) (c : Dev nD) : (V m c main_v7 : FVec F S128x100000 .f32) = Pre_one_top.Hand.drawn F := by
  rw [show V m c main_v7 = after hostOps0_1 (after hostOps0 fun b => m (c, b)) (devRef main_v7) by
    rw [← after_append]; rfl, draws_eq, draws_reads, key_reads]
  rfl

end Cert.KernelIdeal.Hand

end

end
-- ==== Proof.Algebraic.lean ====
/- The kernel and the reference, at exact numbers, end with the same two results. -/
module

public import proofs.«01_k».proof.Proof.Agree
public import proofs.«01_k».proof.Proof.Tops
public import proofs.«01_k».proof.Proof.Launch
public import proofs.«01_k».proof.Proof.KernelNoise

@[expose] public section

noncomputable section

namespace Cert.KernelIdeal.Hand

open Cert.KernelIdeal Cert.KernelIdeal.Gen
open Idealize.ShloMosaic Idealize.ShloMosaic.TcCoe

local instance : Pre_one_top.Facts := Pre_one_top.Hand.facts

theorem index_eq (j : S128x100000.Idx) (r : Fin 128) (k : Fin 100000) (h0 : (j 0).val = r.val) (h1 : (j 1).val = k.val) : j = ix2 r k := by
  funext a
  refine Fin.ext ?_
  match a with
  | 0 => exact h0
  | 1 => exact h1

/-- Row `q` of block `u` of an array is the array's row `8 u + q`. -/
theorem block_row_x (c : Dev nD) (W : FVec Ideal S128x100000 .f32) (u : Fin 16) (q : Fin 8) (r : Fin 128) (h : r.val = 8 * u.val + q.val) :
    line (block (F := Ideal) c xM W u) q = Row.row W r := by
  funext k
  exact congrArg W (index_eq _ r k (by show 8 * u.val + 1 * q.val = r.val; omega) (by show 0 + 1 * k.val = k.val; omega))

theorem block_row_n (c : Dev nD) (W : FVec Ideal S128x100000 .f32) (u : Fin 16) (q : Fin 8) (r : Fin 128) (h : r.val = 8 * u.val + q.val) :
    line (block (F := Ideal) c nM W u) q = Row.row W r := by
  funext k
  exact congrArg W (index_eq _ r k (by show 8 * u.val + 1 * q.val = r.val; omega) (by show 0 + 1 * k.val = k.val; omega))

/-- A row among sixteen blocks of eight. -/
theorem split_row (r : Fin 128) : ∃ (u : Fin 16) (q : Fin 8), r.val = 8 * u.val + q.val :=
  ⟨⟨r.val / 8, by have := r.isLt; omega⟩, ⟨r.val % 8, by omega⟩, by show r.val = 8 * (r.val / 8) + r.val % 8; omega⟩

/-- What the precondition gives for a row. -/
theorem row_top {x : FVec Ideal S128x100000 .f32} (h : (Pre_one_top.fn (F := Ideal) x).2 = fun _ => 1#1) (r : Fin 128) :
    ∃ i, (∀ k, k ≠ i → Row.row x r k + Row.row (Pre_one_top.Hand.drawn Ideal) r k < Row.row x r i + Row.row (Pre_one_top.Hand.drawn Ideal) r i) ∧
      Row.row x r i ≠ ⊥ := by
  obtain ⟨i, hi⟩ := Pre_one_top.Hand.single h r
  have e : ∀ k, Row.row (addf x (Pre_one_top.Hand.drawn Ideal)) r k = Row.row x r k + Row.row (Pre_one_top.Hand.drawn Ideal) r k := fun k =>
    Row.add_at x (Pre_one_top.Hand.drawn Ideal) (ix2 r k)
  have hi' : ∀ k, k ≠ i → Row.row x r k + Row.row (Pre_one_top.Hand.drawn Ideal) r k < Row.row x r i + Row.row (Pre_one_top.Hand.drawn Ideal) r i := fun k hk => by
    rw [← e, ← e]; exact hi k hk
  refine ⟨i, hi', ?_⟩
  obtain ⟨k, hk⟩ : ∃ k : Fin 100000, k ≠ i := by
    by_cases h0 : i = 0
    · exact ⟨1, by rw [h0]; decide⟩
    · exact ⟨0, Ne.symm h0⟩
  have hlt := hi' k hk
  obtain ⟨s, hs⟩ := Pre_one_top.Hand.drawn_real (ix2 r k)
  obtain ⟨t, ht⟩ := Pre_one_top.Hand.drawn_real (ix2 r i)
  have hs' : Row.row (Pre_one_top.Hand.drawn Ideal) r k = (s : EReal) := hs
  have ht' : Row.row (Pre_one_top.Hand.drawn Ideal) r i = (t : EReal) := ht
  rw [hs', ht'] at hlt
  exact Cert.Hand.top_ne_bot hlt

/-- The blocks of the second result, stacked, are the reference's second result. -/
theorem lg_whole {x : FVec Ideal S128x100000 .f32} (h1 : (Pre_one_top.fn (F := Ideal) x).1 = fun _ => 1#1)
    (h2 : (Pre_one_top.fn (F := Ideal) x).2 = fun _ => 1#1) (c : Dev nD) :
    stack (F := Ideal) (fun u => lgBlock (block c xM x u)) = Cert.ReferenceIdeal.Hand.norm (F := Ideal) x := by
  funext j
  obtain ⟨u, q, h⟩ := split_row (j 0)
  obtain ⟨i, -, hb⟩ := row_top h2 (j 0)
  refine (stack_at _ u (ix2 q (j 1)) j h rfl).trans ?_
  refine (Cert.Hand.lg_agree (x := x) (r := j 0) (fun k => Pre_one_top.Hand.below h1 (ix2 (j 0) k)) hb (block_row_x c x u q (j 0) h) (j 1)).trans ?_
  exact congrArg (Cert.ReferenceIdeal.Hand.norm (F := Ideal) x) (eq_ix2 j).symm

/-- The blocks of the first result, stacked, are the reference's first result. -/
theorem ret_whole {x : FVec Ideal S128x100000 .f32} (h1 : (Pre_one_top.fn (F := Ideal) x).1 = fun _ => 1#1)
    (h2 : (Pre_one_top.fn (F := Ideal) x).2 = fun _ => 1#1) (c : Dev nD) :
    stack (F := Ideal) (fun u => retBlock (block c xM x u) (block c nM (Pre_one_top.Hand.drawn Ideal) u))
      = Cert.ReferenceIdeal.Hand.hard (F := Ideal) (Cert.ReferenceIdeal.Hand.soft
          (addf (Cert.ReferenceIdeal.Hand.norm x) (Pre_one_top.Hand.drawn Ideal))) := by
  funext j
  obtain ⟨u, q, h⟩ := split_row (j 0)
  obtain ⟨i, hi, hb⟩ := row_top h2 (j 0)
  refine (stack_at _ u (ix2 q (j 1)) j h rfl).trans ?_
  refine (Cert.Hand.ret_agree (x := x) (n := Pre_one_top.Hand.drawn Ideal) (r := j 0) (fun k => Pre_one_top.Hand.below h1 (ix2 (j 0) k))
    (fun k => Pre_one_top.Hand.drawn_real (ix2 (j 0) k)) hi hb (block_row_x c x u q (j 0) h)
    (block_row_n c (Pre_one_top.Hand.drawn Ideal) u q (j 0) h) (j 1)).trans ?_
  exact congrArg (Cert.ReferenceIdeal.Hand.hard (F := Ideal) (Cert.ReferenceIdeal.Hand.soft
    (addf (Cert.ReferenceIdeal.Hand.norm x) (Pre_one_top.Hand.drawn Ideal)))) (eq_ix2 j).symm

variable (m : (ℓ : Loc nD τ sig) → Buf (Elt Ideal) ℓ) (c : Dev nD)

theorem lgAll_eq : lgAll m c = stack (F := Ideal) (fun u => lgBlock (block c xM (m ((c.tc : Thread nD τ).loc main_arg0)) u)) := by
  rw [lgAll, V_main_arg0]

theorem retAll_eq : retAll m c = stack (F := Ideal) (fun u => retBlock (block c xM (m ((c.tc : Thread nD τ).loc main_arg0)) u)
    (block c nM (Pre_one_top.Hand.drawn Ideal) u)) := by
  rw [retAll, V_main_arg0, V_noise]

end Cert.KernelIdeal.Hand

end

end
-- ==== Proof.lean ====
/- The claims, assembled: the kernel as printed, the kernel at exact numbers and the reference each end with their
   argument unchanged and every counter back at zero, and the last two, under the precondition, with the same results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Plain
public import proofs.«01_k».proof.Proof.Algebraic
public import proofs.«01_k».proof.Proof.ReferenceResults

@[expose] public section

noncomputable section

namespace Cert.Proof

open Idealize.ShloMosaic Idealize.SL.Sem

local instance : Cert.KernelIdeal.Facts := Cert.KernelIdeal.Gen.facts
local instance : Cert.ReferenceIdeal.Facts := Cert.ReferenceIdeal.Gen.facts
local instance : Cert.Pre_one_top.Facts := Cert.Pre_one_top.Hand.facts

/-- Both programs end with the results the reference's own text gives. -/
theorem algebraic : Cert.algebraic_KernelIdeal_ReferenceIdeal_pre_one_top := by
  intro m g m' g' hp hm
  refine ⟨fun c => Cert.KernelIdeal.Hand.retAll m c, fun c => Cert.KernelIdeal.Hand.lgAll m c, Cert.KernelIdeal.Hand.results m g, ?_⟩
  refine (θ_run _ _ _).mono (fun _ h c => ⟨(h c).1.trans ?_, (h c).2.1.trans ?_, (h c).2.2⟩) (Cert.ReferenceIdeal.Hand.results m' g')
  · beta_reduce
    rw [hm c, Cert.KernelIdeal.Hand.retAll_eq]
    exact (Cert.KernelIdeal.Hand.ret_whole (hp c).1 (hp c).2 c).symm
  · beta_reduce
    rw [hm c, Cert.KernelIdeal.Hand.lgAll_eq]
    exact (Cert.KernelIdeal.Hand.lg_whole (hp c).1 (hp c).2 c).symm

theorem claim : Cert.Claim := ⟨Cert.Kernel.Gen.facts, Cert.KernelIdeal.Gen.facts, Cert.ReferenceIdeal.Gen.facts, Cert.Pre_one_top.Hand.facts,
  fun m g _ => Cert.Kernel.Hand.quiescent m g,
  fun m g _ => Cert.KernelIdeal.Hand.quiescent m g,
  fun m g _ => Cert.KernelIdeal.Hand.quiescent m g,
  fun m g _ => Cert.ReferenceIdeal.Hand.quiescent m g,
  fun m g _ => Cert.ReferenceIdeal.Hand.quiescent m g,
  trivial,
  algebraic⟩

end Cert.Proof

end

end
